-- ==== Defs.lean ====
def Pre_Axial (m : (ℓ : Loc Cert.Axial.nD Cert.Axial.τ Cert.Axial.sig) → Buf (Elt Bits) ℓ) : Prop :=
  True

def Pre_AxialIdeal (m : (ℓ : Loc Cert.AxialIdeal.nD Cert.AxialIdeal.τ Cert.AxialIdeal.sig) → Buf (Elt Ideal) ℓ) : Prop :=
  True

def Pre_AxialIdeal_finite_axial [hPre_finite_axial : Cert.Pre_finite_axial.Facts] (m : (ℓ : Loc Cert.AxialIdeal.nD Cert.AxialIdeal.τ Cert.AxialIdeal.sig) → Buf (Elt Ideal) ℓ) : Prop :=
  ∀ c : Dev Cert.AxialIdeal.nD,
    (Cert.Pre_finite_axial.fn (F := Ideal) (m ((c.tc : Thread Cert.AxialIdeal.nD Cert.AxialIdeal.τ).loc Cert.AxialIdeal.main_arg0)) (m ((c.tc : Thread Cert.AxialIdeal.nD Cert.AxialIdeal.τ).loc Cert.AxialIdeal.main_arg1))) = (fun _ => 1#1)

def Pre_AxialRefIdeal (m : (ℓ : Loc Cert.AxialRefIdeal.nD Cert.AxialRefIdeal.τ Cert.AxialRefIdeal.sig) → Buf (Elt Ideal) ℓ) : Prop :=
  True

def Pre_AxialRefIdeal_finite_axial [hPre_finite_axial : Cert.Pre_finite_axial.Facts] (m : (ℓ : Loc Cert.AxialRefIdeal.nD Cert.AxialRefIdeal.τ Cert.AxialRefIdeal.sig) → Buf (Elt Ideal) ℓ) : Prop :=
  ∀ c : Dev Cert.AxialRefIdeal.nD,
    (Cert.Pre_finite_axial.fn (F := Ideal) (m ((c.tc : Thread Cert.AxialRefIdeal.nD Cert.AxialRefIdeal.τ).loc Cert.AxialRefIdeal.main_arg0)) (m ((c.tc : Thread Cert.AxialRefIdeal.nD Cert.AxialRefIdeal.τ).loc Cert.AxialRefIdeal.main_arg1))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Axial [hAxial : Cert.Axial.Facts] : Prop :=
  ∀ (m : (ℓ : Loc Cert.Axial.nD Cert.Axial.τ Cert.Axial.sig) → Buf (Elt Bits) ℓ) (g : Dev Cert.Axial.nD → PrngReg), Pre_Axial m →
    θ_run (Cert.Axial.defs (F := Bits)) (onTc (τ := Cert.Axial.τ) (Cert.Axial.main (F := Bits))) ⟨m, fun _ => 0, g⟩ (fun r => (∀ c : Dev Cert.Axial.nD,
      r.2.mem ((c.tc : Thread Cert.Axial.nD Cert.Axial.τ).loc Cert.Axial.main_arg0) = m ((c.tc : Thread Cert.Axial.nD Cert.Axial.τ).loc Cert.Axial.main_arg0)
      ∧ r.2.mem ((c.tc : Thread Cert.Axial.nD Cert.Axial.τ).loc Cert.Axial.main_arg1) = m ((c.tc : Thread Cert.Axial.nD Cert.Axial.τ).loc Cert.Axial.main_arg1))
      ∧ r.2.sem = fun _ => 0)

def quiescent_AxialIdeal [hAxialIdeal : Cert.AxialIdeal.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1))
      ∧ r.2.sem = fun _ => 0)

def quiescent_AxialIdeal_pre_finite_axial [hAxialIdeal : Cert.AxialIdeal.Facts] [hPre_finite_axial : Cert.Pre_finite_axial.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal_finite_axial m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1))
      ∧ r.2.sem = fun _ => 0)

def quiescent_AxialRefIdeal [hAxialRefIdeal : Cert.AxialRefIdeal.Facts] : Prop :=
  ∀ (m : (ℓ : Loc Cert.AxialRefIdeal.nD Cert.AxialRefIdeal.τ Cert.AxialRefIdeal.sig) → Buf (Elt Ideal) ℓ) (g : Dev Cert.AxialRefIdeal.nD → PrngReg), Pre_AxialRefIdeal m →
    θ_run (Cert.AxialRefIdeal.defs (F := Ideal)) (onTc (τ := Cert.AxialRefIdeal.τ) (Cert.AxialRefIdeal.main (F := Ideal))) ⟨m, fun _ => 0, g⟩ (fun r => (∀ c : Dev Cert.AxialRefIdeal.nD,
      r.2.mem ((c.tc : Thread Cert.AxialRefIdeal.nD Cert.AxialRefIdeal.τ).loc Cert.AxialRefIdeal.main_arg0) = m ((c.tc : Thread Cert.AxialRefIdeal.nD Cert.AxialRefIdeal.τ).loc Cert.AxialRefIdeal.main_arg0)
      ∧ r.2.mem ((c.tc : Thread Cert.AxialRefIdeal.nD Cert.AxialRefIdeal.τ).loc Cert.AxialRefIdeal.main_arg1) = m ((c.tc : Thread Cert.AxialRefIdeal.nD Cert.AxialRefIdeal.τ).loc Cert.AxialRefIdeal.main_arg1))
      ∧ r.2.sem = fun _ => 0)

def quiescent_AxialRefIdeal_pre_finite_axial [hAxialRefIdeal : Cert.AxialRefIdeal.Facts] [hPre_finite_axial : Cert.Pre_finite_axial.Facts] : Prop :=
  ∀ (m : (ℓ : Loc Cert.AxialRefIdeal.nD Cert.AxialRefIdeal.τ Cert.AxialRefIdeal.sig) → Buf (Elt Ideal) ℓ) (g : Dev Cert.AxialRefIdeal.nD → PrngReg), Pre_AxialRefIdeal_finite_axial m →
    θ_run (Cert.AxialRefIdeal.defs (F := Ideal)) (onTc (τ := Cert.AxialRefIdeal.τ) (Cert.AxialRefIdeal.main (F := Ideal))) ⟨m, fun _ => 0, g⟩ (fun r => (∀ c : Dev Cert.AxialRefIdeal.nD,
      r.2.mem ((c.tc : Thread Cert.AxialRefIdeal.nD Cert.AxialRefIdeal.τ).loc Cert.AxialRefIdeal.main_arg0) = m ((c.tc : Thread Cert.AxialRefIdeal.nD Cert.AxialRefIdeal.τ).loc Cert.AxialRefIdeal.main_arg0)
      ∧ r.2.mem ((c.tc : Thread Cert.AxialRefIdeal.nD Cert.AxialRefIdeal.τ).loc Cert.AxialRefIdeal.main_arg1) = m ((c.tc : Thread Cert.AxialRefIdeal.nD Cert.AxialRefIdeal.τ).loc Cert.AxialRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Axial_AxialIdeal : Prop :=
  IdealRules.named_const.Statement Cert.AxialIdeal.κ "c_ax" .f32 0x3E0293EE#32 (((Real.sqrt 128)⁻¹ * (Real.log 2)⁻¹ : ℝ) : EReal)

def algebraic_AxialIdeal_AxialRefIdeal_pre_finite_axial [hAxialIdeal : Cert.AxialIdeal.Facts] [hAxialRefIdeal : Cert.AxialRefIdeal.Facts] [hPre_finite_axial : Cert.Pre_finite_axial.Facts] : Prop :=
  ∀ (m : (ℓ : Loc Cert.AxialIdeal.nD Cert.AxialIdeal.τ Cert.AxialIdeal.sig) → Buf (Elt Ideal) ℓ) (g : Dev Cert.AxialIdeal.nD → PrngReg)
    (m' : (ℓ : Loc Cert.AxialRefIdeal.nD Cert.AxialRefIdeal.τ Cert.AxialRefIdeal.sig) → Buf (Elt Ideal) ℓ) (g' : Dev Cert.AxialRefIdeal.nD → PrngReg), Pre_AxialIdeal_finite_axial m →
    (∀ c : Dev Cert.AxialIdeal.nD,
      m' ((c.tc : Thread Cert.AxialRefIdeal.nD Cert.AxialRefIdeal.τ).loc Cert.AxialRefIdeal.main_arg0) = m ((c.tc : Thread Cert.AxialIdeal.nD Cert.AxialIdeal.τ).loc Cert.AxialIdeal.main_arg0)
      ∧ m' ((c.tc : Thread Cert.AxialRefIdeal.nD Cert.AxialRefIdeal.τ).loc Cert.AxialRefIdeal.main_arg1) = m ((c.tc : Thread Cert.AxialIdeal.nD Cert.AxialIdeal.τ).loc Cert.AxialIdeal.main_arg1)) →
    ∃ (v0 : (c : Dev Cert.AxialIdeal.nD) → Buf (Elt Ideal) ((c.tc : Thread Cert.AxialIdeal.nD Cert.AxialIdeal.τ).loc Cert.AxialIdeal.main_v0)),
      θ_run (Cert.AxialIdeal.defs (F := Ideal)) (onTc (τ := Cert.AxialIdeal.τ) (Cert.AxialIdeal.main (F := Ideal))) ⟨m, fun _ => 0, g⟩ (fun r => ∀ c : Dev Cert.AxialIdeal.nD,
          r.2.mem ((c.tc : Thread Cert.AxialIdeal.nD Cert.AxialIdeal.τ).loc Cert.AxialIdeal.main_v0) = v0 c
          ∧ r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
          ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1))
      ∧ θ_run (Cert.AxialRefIdeal.defs (F := Ideal)) (onTc (τ := Cert.AxialRefIdeal.τ) (Cert.AxialRefIdeal.main (F := Ideal))) ⟨m', fun _ => 0, g'⟩ (fun r => ∀ c : Dev Cert.AxialRefIdeal.nD,
          r.2.mem ((c.tc : Thread Cert.AxialRefIdeal.nD Cert.AxialRefIdeal.τ).loc Cert.AxialRefIdeal.main_v29) = v0 c
          ∧ r.2.mem ((c.tc : Thread Cert.AxialRefIdeal.nD Cert.AxialRefIdeal.τ).loc Cert.AxialRefIdeal.main_arg0) = m' ((c.tc : Thread Cert.AxialRefIdeal.nD Cert.AxialRefIdeal.τ).loc Cert.AxialRefIdeal.main_arg0)
          ∧ r.2.mem ((c.tc : Thread Cert.AxialRefIdeal.nD Cert.AxialRefIdeal.τ).loc Cert.AxialRefIdeal.main_arg1) = m' ((c.tc : Thread Cert.AxialRefIdeal.nD Cert.AxialRefIdeal.τ).loc Cert.AxialRefIdeal.main_arg1))

def preserves_Mla_MlaIdeal : Prop :=
  IdealRules.named_const.Statement Cert.MlaIdeal.κ "c_mla" .f32 0x3DD53B95#32 (((Real.sqrt 192)⁻¹ * (Real.log 2)⁻¹ : ℝ) : EReal)

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v27) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v28)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v28) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v3)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v3) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v32) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v27) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v81_0)) (v1 : (c : Dev Cert.QkvIdeal.nD) → Buf (Elt Ideal) ((c.tc : Thread Cert.QkvIdeal.nD Cert.QkvIdeal.τ).loc Cert.QkvIdeal.main_v81_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v81_0) = v0 c
          ∧ r.2.mem ((c.tc : Thread Cert.QkvIdeal.nD Cert.QkvIdeal.τ).loc Cert.QkvIdeal.main_v81_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v231) = v0 c
          ∧ r.2.mem ((c.tc : Thread Cert.QkvRefIdeal.nD Cert.QkvRefIdeal.τ).loc Cert.QkvRefIdeal.main_v236) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hAxial : Cert.Axial.Facts) (hAxialIdeal : Cert.AxialIdeal.Facts) (hAxialRefIdeal : Cert.AxialRefIdeal.Facts) (hMla : Cert.Mla.Facts) (hMlaIdeal : Cert.MlaIdeal.Facts) (hMlaRefIdeal : Cert.MlaRefIdeal.Facts) (hGate : Cert.Gate.Facts) (hGateIdeal : Cert.GateIdeal.Facts) (hGateRefIdeal : Cert.GateRefIdeal.Facts) (hBranch : Cert.Branch.Facts) (hBranchIdeal : Cert.BranchIdeal.Facts) (hBranchRefIdeal : Cert.BranchRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hPre_finite_axial : Cert.Pre_finite_axial.Facts) (hPre_finite_mla : Cert.Pre_finite_mla.Facts),
    quiescent_Axial (hAxial := hAxial)
    ∧ quiescent_AxialIdeal (hAxialIdeal := hAxialIdeal)
    ∧ quiescent_AxialIdeal_pre_finite_axial (hAxialIdeal := hAxialIdeal) (hPre_finite_axial := hPre_finite_axial)
    ∧ quiescent_AxialRefIdeal (hAxialRefIdeal := hAxialRefIdeal)
    ∧ quiescent_AxialRefIdeal_pre_finite_axial (hAxialRefIdeal := hAxialRefIdeal) (hPre_finite_axial := hPre_finite_axial)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Gate (hGate := hGate)
    ∧ quiescent_GateIdeal (hGateIdeal := hGateIdeal)
    ∧ quiescent_GateRefIdeal (hGateRefIdeal := hGateRefIdeal)
    ∧ quiescent_Branch (hBranch := hBranch)
    ∧ quiescent_BranchIdeal (hBranchIdeal := hBranchIdeal)
    ∧ quiescent_BranchRefIdeal (hBranchRefIdeal := hBranchRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ preserves_Axial_AxialIdeal
    ∧ algebraic_AxialIdeal_AxialRefIdeal_pre_finite_axial (hAxialIdeal := hAxialIdeal) (hAxialRefIdeal := hAxialRefIdeal) (hPre_finite_axial := hPre_finite_axial)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Gate_GateIdeal
    ∧ algebraic_GateIdeal_GateRefIdeal (hGateIdeal := hGateIdeal) (hGateRefIdeal := hGateRefIdeal)
    ∧ preserves_Branch_BranchIdeal
    ∧ algebraic_BranchIdeal_BranchRefIdeal (hBranchIdeal := hBranchIdeal) (hBranchRefIdeal := hBranchRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
-- ==== Pre_finite_axial.lean ====
abbrev S8x4096x3840 : Shape := ⟨3, ![8, 4096, 3840]⟩
abbrev S8x4096x9216 : Shape := ⟨3, ![8, 4096, 9216]⟩
abbrev S8x4096x1280 : Shape := ⟨3, ![8, 4096, 1280]⟩
abbrev S_ : Shape := ⟨0, ![]⟩

class Facts : Prop where
  slices_S8x4096x3840_S8x4096x1280_0_0_0 : S8x4096x3840.Slices ![0, 0, 0] S8x4096x1280
  bitsLt_bf16_f32 : FTy.bits .bf16 < FTy.bits .f32
  bcast_S_S8x4096x1280 : S_.BroadcastsInDim S8x4096x1280 (![] : Fin 0 → Fin S8x4096x1280.rank)

variable [Facts]

def fn {F : FTy → Type} [FloatOps F] (main_arg0 : FVec F S8x4096x3840 .bf16) (main_arg1 : FVec F S8x4096x9216 .f32) : IVec S8x4096x1280 1 :=
  let main_v0 : FVec F S8x4096x1280 .bf16 := (extractStridedSlice S8x4096x1280 ![0, 0, 0] · slices_S8x4096x3840_S8x4096x1280_0_0_0) main_arg0
  let main_v1 : FVec F S8x4096x1280 .f32 := (extf .f32 · bitsLt_bf16_f32) main_v0
  let main_v2 : FVec F S8x4096x1280 .f32 := Host.absf main_v1
  let main_cst : FVec F S_ .f32 := constant S_ .f32 0x7F800000#32
  let main_v3 : FVec F S8x4096x1280 .f32 := broadcastInDim S8x4096x1280 ![] bcast_S_S8x4096x1280 main_cst
  let main_v4 : IVec S8x4096x1280 1 := cmpf .olt main_v2 main_v3
  main_v4
-- ==== Pre_finite_mla.lean ====
abbrev S8x4096x2048 : Shape := ⟨3, ![8, 4096, 2048]⟩
abbrev S8x4096x1024 : Shape := ⟨3, ![8, 4096, 1024]⟩
abbrev S8x4096x9216 : Shape := ⟨3, ![8, 4096, 9216]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)

variable [Facts]

def fn {F : FTy → Type} [FloatOps F] (main_arg0 : FVec F S8x4096x2048 .bf16) (main_arg1 : FVec F S8x4096x2048 .bf16) (main_arg2 : FVec F S8x4096x1024 .bf16) (main_arg3 : FVec F S8x4096x9216 .f32) : IVec S8x4096x2048 1 :=
  let main_v0 : FVec F S8x4096x2048 .f32 := (extf .f32 · bitsLt_bf16_f32) main_arg0
  let main_v1 : FVec F S8x4096x2048 .f32 := Host.absf main_v0
  let main_cst : FVec F S_ .f32 := constant S_ .f32 0x7F800000#32
  let main_v2 : FVec F S8x4096x2048 .f32 := broadcastInDim S8x4096x2048 ![] bcast_S_S8x4096x2048 main_cst
  let main_v3 : IVec S8x4096x2048 1 := cmpf .olt main_v1 main_v2
  let main_v4 : FVec F S8x4096x2048 .f32 := (extf .f32 · bitsLt_bf16_f32) main_arg1
  let main_v5 : FVec F S8x4096x2048 .f32 := Host.absf main_v4
  let main_cst_0 : FVec F S_ .f32 := constant S_ .f32 0x7F800000#32
  let main_v6 : FVec F S8x4096x2048 .f32 := broadcastInDim S8x4096x2048 ![] bcast_S_S8x4096x2048 main_cst_0
  let main_v7 : IVec S8x4096x2048 1 := cmpf .olt main_v5 main_v6
  let main_v8 : IVec S8x4096x2048 1 := andi main_v3 main_v7
  main_v8
-- ==== Axial.lean ====
abbrev S8x4096x3840 : Shape := ⟨3, ![8, 4096, 3840]⟩
abbrev S8x4096x9216 : Shape := ⟨3, ![8, 4096, 9216]⟩
abbrev S8x4096x1024 : Shape := ⟨3, ![8, 4096, 1024]⟩
abbrev S1x1024x512 : Shape := ⟨3, ![1, 1024, 512]⟩
abbrev S1x4096x128 : Shape := ⟨3, ![1, 4096, 128]⟩
abbrev S4096x256 : Shape := ⟨2, ![4096, 256]⟩
abbrev S4096x128 : Shape := ⟨2, ![4096, 128]⟩
abbrev S1x256x128 : Shape := ⟨3, ![1, 256, 128]⟩
abbrev S256x128 : Shape := ⟨2, ![256, 128]⟩
abbrev S1024x128 : Shape := ⟨2, ![1024, 128]⟩
abbrev S1x2048x128 : Shape := ⟨3, ![1, 2048, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 3
  | .vmem => 11
  | .smem => 0
  | _ => 0

abbrev bufTy : (tb : Table) → Fin (tcTables nBuf tb) → BufTy
  | .hbm, ⟨0, _⟩ => ⟨S8x4096x3840, .bf16⟩
  | .hbm, ⟨1, _⟩ => ⟨S8x4096x9216, .f32⟩
  | .hbm, ⟨2, _⟩ => ⟨S8x4096x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .bf16⟩
  | .local _ .vmem, ⟨9, _⟩ => ⟨S1x1024x512, .bf16⟩
  | .local _ .vmem, ⟨10, _⟩ => ⟨S4096x256, .bf16⟩
  | _, _ => ⟨S8x4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AxialIdeal.lean ====
variable {F : FTy → Type} [FloatOps F] [Named F]
def κ : String → Option EReal := fun
  | "c_ax" => some (((Real.sqrt 128)⁻¹ * (Real.log 2)⁻¹ : ℝ) : EReal)
  | _ => none
-- ==== AxialRefIdeal.lean ====
abbrev S8x4096x3840 : Shape := ⟨3, ![8, 4096, 3840]⟩
abbrev S8x4096x9216 : Shape := ⟨3, ![8, 4096, 9216]⟩
abbrev S8x4096x1024 : Shape := ⟨3, ![8, 4096, 1024]⟩
abbrev S8x4096x2x4x128 : Shape := ⟨5, ![8, 4096, 2, 4, 128]⟩
abbrev S8x4096x256 : Shape := ⟨3, ![8, 4096, 256]⟩
abbrev S8x4096x2x128 : Shape := ⟨4, ![8, 4096, 2, 128]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x3840, .bf16⟩
  | .hbm, ⟨1, _⟩ => ⟨S8x4096x9216, .f32⟩
  | .hbm, ⟨2, _⟩ => ⟨S8x4096x3840, .f32⟩
  | .hbm, ⟨3, _⟩ => ⟨S8x4096x1024, .f32⟩
  | .hbm, ⟨4, _⟩ => ⟨S8x4096x2x4x128, .f32⟩
  | .hbm, ⟨5, _⟩ => ⟨S8x4096x256, .f32⟩
  | .hbm, ⟨6, _⟩ => ⟨S8x4096x2x128, .f32⟩
  | .hbm, ⟨7, _⟩ => ⟨S8x4096x256, .f32⟩
  | .hbm, ⟨8, _⟩ => ⟨S8x4096x2x128, .f32⟩
  | .hbm, ⟨9, _⟩ => ⟨S8x4096x1024, .f32⟩
  | .hbm, ⟨10, _⟩ => ⟨S8x2x4096x4096x4, .f32⟩
  | .hbm, ⟨11, _⟩ => ⟨S8x2x4x4096x4096, .f32⟩
  | .hbm, ⟨12, _⟩ => ⟨S_, .f32⟩
  | .hbm, ⟨13, _⟩ => ⟨S_, .f32⟩
  | .hbm, ⟨14, _⟩ => ⟨S8x2x4x4096x4096, .f32⟩
  | .hbm, ⟨15, _⟩ => ⟨S8x2x4x4096x4096, .f32⟩
  | .hbm, ⟨16, _⟩ => ⟨S_, .f32⟩
  | .hbm, ⟨17, _⟩ => ⟨S8x2x4x4096, .f32⟩
  | .hbm, ⟨18, _⟩ => ⟨S_, .f32⟩
  | .hbm, ⟨19, _⟩ => ⟨S8x2x4x4096, .f32⟩
  | .hbm, ⟨20, _⟩ => ⟨S8x2x4x4096, .f32⟩
  | .hbm, ⟨21, _⟩ => ⟨S8x2x4x4096x1, .f32⟩
  | .hbm, ⟨22, _⟩ => ⟨S8x2x4x4096x4096, .f32⟩
  | .hbm, ⟨23, _⟩ => ⟨S8x2x4x4096x4096, .f32⟩
  | .hbm, ⟨24, _⟩ => ⟨S8x2x4x4096x4096, .f32⟩
  | .hbm, ⟨25, _⟩ => ⟨S_, .f32⟩
  | .hbm, ⟨26, _⟩ => ⟨S8x2x4x4096, .f32⟩
  | .hbm, ⟨27, _⟩ => ⟨S8x2x4x4096x1, .f32⟩
  | .hbm, ⟨28, _⟩ => ⟨S8x2x4x4096x4096, .f32⟩
  | .hbm, ⟨29, _⟩ => ⟨S8x2x4x4096x4096, .f32⟩
  | .hbm, ⟨30, _⟩ => ⟨S8x2x128x4x4096, .f32⟩
  | .hbm, ⟨31, _⟩ => ⟨S8x4096x2x4x128, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .bf16⟩
  | _, _ => ⟨S8x4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Mla.lean ====
abbrev S8x4096x2048 : Shape := ⟨3, ![8, 4096, 2048]⟩
abbrev S8x4096x1024 : Shape := ⟨3, ![8, 4096, 1024]⟩
abbrev S8x4096x9216 : Shape := ⟨3, ![8, 4096, 9216]⟩
abbrev S1x4096x256 : Shape := ⟨3, ![1, 4096, 256]⟩
abbrev S1x4096x128 : Shape := ⟨3, ![1, 4096, 128]⟩
abbrev S4096x256 : Shape := ⟨2, ![4096, 256]⟩
abbrev S4096x128 : Shape := ⟨2, ![4096, 128]⟩
abbrev S1x1024x256 : Shape := ⟨3, ![1, 1024, 256]⟩
abbrev S1024x256 : Shape := ⟨2, ![1024, 256]⟩
abbrev S1x2048x256 : Shape := ⟨3, ![1, 2048, 256]⟩
abbrev S2048x256 : Shape := ⟨2, ![2048, 256]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 5
  | .vmem => 11
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x9216, .f32⟩
  | .hbm, ⟨4, _⟩ => ⟨S8x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x128, .bf16⟩
  | .local _ .vmem, ⟨9, _⟩ => ⟨S1x4096x128, .bf16⟩
  | .local _ .vmem, ⟨10, _⟩ => ⟨S4096x256, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlaIdeal.lean ====
variable {F : FTy → Type} [FloatOps F] [Named F]
def κ : String → Option EReal := fun
  | "c_mla" => some (((Real.sqrt 192)⁻¹ * (Real.log 2)⁻¹ : ℝ) : EReal)
  | _ => none
-- ==== MlaRefIdeal.lean ====
abbrev S8x4096x2048 : Shape := ⟨3, ![8, 4096, 2048]⟩
abbrev S8x4096x1024 : Shape := ⟨3, ![8, 4096, 1024]⟩
abbrev S8x4096x9216 : Shape := ⟨3, ![8, 4096, 9216]⟩
abbrev S8x4096x8x256 : Shape := ⟨4, ![8, 4096, 8, 256]⟩
abbrev S8x4096x8x128 : Shape := ⟨4, ![8, 4096, 8, 128]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x9216, .f32⟩
  | .hbm, ⟨4, _⟩ => ⟨S8x4096x2048, .f32⟩
  | .hbm, ⟨5, _⟩ => ⟨S8x4096x8x256, .f32⟩
  | .hbm, ⟨6, _⟩ => ⟨S8x4096x2048, .f32⟩
  | .hbm, ⟨7, _⟩ => ⟨S8x4096x8x256, .f32⟩
  | .hbm, ⟨8, _⟩ => ⟨S8x4096x1024, .f32⟩
  | .hbm, ⟨9, _⟩ => ⟨S8x4096x8x128, .f32⟩
  | .hbm, ⟨10, _⟩ => ⟨S8x4096x1024, .f32⟩
  | .hbm, ⟨11, _⟩ => ⟨S8x8x4096x4096, .f32⟩
  | .hbm, ⟨12, _⟩ => ⟨S_, .f32⟩
  | .hbm, ⟨13, _⟩ => ⟨S_, .f32⟩
  | .hbm, ⟨14, _⟩ => ⟨S8x8x4096x4096, .f32⟩
  | .hbm, ⟨15, _⟩ => ⟨S8x8x4096x4096, .f32⟩
  | .hbm, ⟨16, _⟩ => ⟨S_, .f32⟩
  | .hbm, ⟨17, _⟩ => ⟨S8x8x4096, .f32⟩
  | .hbm, ⟨18, _⟩ => ⟨S_, .f32⟩
  | .hbm, ⟨19, _⟩ => ⟨S8x8x4096, .f32⟩
  | .hbm, ⟨20, _⟩ => ⟨S8x8x4096, .f32⟩
  | .hbm, ⟨21, _⟩ => ⟨S8x8x4096x1, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S_, .f32⟩
  | .hbm, ⟨26, _⟩ => ⟨S8x8x4096, .f32⟩
  | .hbm, ⟨27, _⟩ => ⟨S8x8x4096x1, .f32⟩
  | .hbm, ⟨28, _⟩ => ⟨S8x8x4096x4096, .f32⟩
  | .hbm, ⟨29, _⟩ => ⟨S8x8x4096x4096, .f32⟩
  | .hbm, ⟨30, _⟩ => ⟨S8x8x128x4096, .f32⟩
  | .hbm, ⟨31, _⟩ => ⟨S8x4096x8x128, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Gate.lean ====
abbrev S32768x2048 : Shape := ⟨2, ![32768, 2048]⟩
abbrev S2048x13120 : Shape := ⟨2, ![2048, 13120]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x2048 : Shape := ⟨2, ![2048, 2048]⟩
abbrev S2048x8x2x2x32 : Shape := ⟨5, ![2048, 8, 2, 2, 32]⟩
abbrev S2048x2x2x2x32 : Shape := ⟨5, ![2048, 2, 2, 2, 32]⟩
abbrev S2048x128 : Shape := ⟨2, ![2048, 128]⟩
abbrev S2048x1x2x2x32 : Shape := ⟨5, ![2048, 1, 2, 2, 32]⟩
abbrev S_ : Shape := ⟨0, ![]⟩
abbrev S2048x2176 : Shape := ⟨2, ![2048, 2176]⟩
abbrev S2048x15360 : Shape := ⟨2, ![2048, 15360]⟩
abbrev S32768x9216 : Shape := ⟨2, ![32768, 9216]⟩
abbrev S512x2048 : Shape := ⟨2, ![512, 2048]⟩
abbrev S2048x3072 : Shape := ⟨2, ![2048, 3072]⟩
abbrev S512x3072 : Shape := ⟨2, ![512, 3072]⟩
abbrev S256x2048 : Shape := ⟨2, ![256, 2048]⟩
abbrev S256x512 : Shape := ⟨2, ![256, 512]⟩

abbrev nBuf : Space → Nat
  | .hbm => 32
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x13120, .f32⟩
  | .hbm, ⟨2, _⟩ => ⟨S2048x512, .f32⟩
  | .hbm, ⟨3, _⟩ => ⟨S2048x256, .f32⟩
  | .hbm, ⟨4, _⟩ => ⟨S2048x64, .f32⟩
  | .hbm, ⟨5, _⟩ => ⟨S2048x1024, .f32⟩
  | .hbm, ⟨6, _⟩ => ⟨S2048x1024, .f32⟩
  | .hbm, ⟨7, _⟩ => ⟨S2048x256, .f32⟩
  | .hbm, ⟨8, _⟩ => ⟨S2048x256, .f32⟩
  | .hbm, ⟨9, _⟩ => ⟨S2048x1024, .f32⟩
  | .hbm, ⟨10, _⟩ => ⟨S2048x1024, .f32⟩
  | .hbm, ⟨11, _⟩ => ⟨S2048x256, .f32⟩
  | .hbm, ⟨12, _⟩ => ⟨S2048x256, .f32⟩
  | .hbm, ⟨13, _⟩ => ⟨S2048x1024, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x8x2x2x32, .f32⟩
  | .hbm, ⟨18, _⟩ => ⟨S2048x8x2x2x32, .f32⟩
  | .hbm, ⟨19, _⟩ => ⟨S2048x1024, .f32⟩
  | .hbm, ⟨20, _⟩ => ⟨S2048x2x2x2x32, .f32⟩
  | .hbm, ⟨21, _⟩ => ⟨S2048x2x2x2x32, .f32⟩
  | .hbm, ⟨22, _⟩ => ⟨S2048x256, .f32⟩
  | .hbm, ⟨23, _⟩ => ⟨S2048x128, .f32⟩
  | .hbm, ⟨24, _⟩ => ⟨S2048x1x2x2x32, .f32⟩
  | .hbm, ⟨25, _⟩ => ⟨S2048x1x2x2x32, .f32⟩
  | .hbm, ⟨26, _⟩ => ⟨S2048x128, .f32⟩
  | .hbm, ⟨27, _⟩ => ⟨S_, .f32⟩
  | .hbm, ⟨28, _⟩ => ⟨S2048x2176, .f32⟩
  | .hbm, ⟨29, _⟩ => ⟨S2048x15360, .f32⟩
  | .hbm, ⟨30, _⟩ => ⟨S2048x15360, .bf16⟩
  | .hbm, ⟨31, _⟩ => ⟨S32768x9216, .f32⟩
  | .local _ .vmem, ⟨0, _⟩ => ⟨S512x2048, .bf16⟩
  | .local _ .vmem, ⟨1, _⟩ => ⟨S512x2048, .bf16⟩
  | .local _ .vmem, ⟨2, _⟩ => ⟨S2048x3072, .bf16⟩
  | .local _ .vmem, ⟨3, _⟩ => ⟨S512x3072, .f32⟩
  | .local _ .vmem, ⟨4, _⟩ => ⟨S512x3072, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S32768x2048 : Shape := ⟨2, ![32768, 2048]⟩
abbrev S2048x13120 : Shape := ⟨2, ![2048, 13120]⟩
abbrev S32768x13120 : Shape := ⟨2, ![32768, 13120]⟩
abbrev S32768x512 : Shape := ⟨2, ![32768, 512]⟩
abbrev S32768x256 : Shape := ⟨2, ![32768, 256]⟩
abbrev S32768x64 : Shape := ⟨2, ![32768, 64]⟩
abbrev S32768x1024 : Shape := ⟨2, ![32768, 1024]⟩
abbrev S32768x9216 : Shape := ⟨2, ![32768, 9216]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x13120, .f32⟩
  | .hbm, ⟨2, _⟩ => ⟨S32768x2048, .f32⟩
  | .hbm, ⟨3, _⟩ => ⟨S32768x13120, .f32⟩
  | .hbm, ⟨4, _⟩ => ⟨S32768x512, .f32⟩
  | .hbm, ⟨5, _⟩ => ⟨S32768x256, .f32⟩
  | .hbm, ⟨6, _⟩ => ⟨S32768x64, .f32⟩
  | .hbm, ⟨7, _⟩ => ⟨S32768x1024, .f32⟩
  | .hbm, ⟨8, _⟩ => ⟨S32768x1024, .f32⟩
  | .hbm, ⟨9, _⟩ => ⟨S32768x256, .f32⟩
  | .hbm, ⟨10, _⟩ => ⟨S32768x256, .f32⟩
  | .hbm, ⟨11, _⟩ => ⟨S32768x1024, .f32⟩
  | .hbm, ⟨12, _⟩ => ⟨S32768x1024, .f32⟩
  | .hbm, ⟨13, _⟩ => ⟨S32768x256, .f32⟩
  | .hbm, ⟨14, _⟩ => ⟨S32768x256, .f32⟩
  | .hbm, ⟨15, _⟩ => ⟨S32768x1024, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x9216, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Branch.lean ====
abbrev S32768x1024 : Shape := ⟨2, ![32768, 1024]⟩
abbrev S1024x2048 : Shape := ⟨2, ![1024, 2048]⟩
abbrev S32768x9216 : Shape := ⟨2, ![32768, 9216]⟩
abbrev S32768x2048 : Shape := ⟨2, ![32768, 2048]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 11
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S32768x9216, .f32⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x2048, .bf16⟩
  | .local _ .vmem, ⟨22, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_11 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== BranchRefIdeal.lean ====
abbrev S32768x1024 : Shape := ⟨2, ![32768, 1024]⟩
abbrev S1024x2048 : Shape := ⟨2, ![1024, 2048]⟩
abbrev S32768x9216 : Shape := ⟨2, ![32768, 9216]⟩
abbrev S32768x2048 : Shape := ⟨2, ![32768, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S32768x9216, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x1024, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S32768x1024, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x1024, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Out.lean ====
abbrev S8x4096x2048 : Shape := ⟨3, ![8, 4096, 2048]⟩
abbrev S2048x2048 : Shape := ⟨2, ![2048, 2048]⟩
abbrev S8x1x6144 : Shape := ⟨3, ![8, 1, 6144]⟩
abbrev S2048 : Shape := ⟨1, ![2048]⟩
abbrev S1x2048 : Shape := ⟨2, ![1, 2048]⟩
abbrev S1x512x2048 : Shape := ⟨3, ![1, 512, 2048]⟩
abbrev S1x1x2048 : Shape := ⟨3, ![1, 1, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x6144, .f32⟩
  | .hbm, ⟨4, _⟩ => ⟨S2048, .f32⟩
  | .hbm, ⟨5, _⟩ => ⟨S8x1x6144, .f32⟩
  | .hbm, ⟨6, _⟩ => ⟨S2048x2048, .bf16⟩
  | .hbm, ⟨7, _⟩ => ⟨S1x2048, .f32⟩
  | .hbm, ⟨8, _⟩ => ⟨S8x4096x2048, .f32⟩
  | .hbm, ⟨9, _⟩ => ⟨S8x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRefIdeal.lean ====
abbrev S8x4096x2048 : Shape := ⟨3, ![8, 4096, 2048]⟩
abbrev S2048x2048 : Shape := ⟨2, ![2048, 2048]⟩
abbrev S8x1x6144 : Shape := ⟨3, ![8, 1, 6144]⟩
abbrev S2048 : Shape := ⟨1, ![2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x6144, .f32⟩
  | .hbm, ⟨4, _⟩ => ⟨S2048, .f32⟩
  | .hbm, ⟨5, _⟩ => ⟨S8x1x6144, .f32⟩
  | .hbm, ⟨6, _⟩ => ⟨S8x1x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x2048, .f32⟩
  | .hbm, ⟨24, _⟩ => ⟨S8x4096x2048, .f32⟩
  | .hbm, ⟨25, _⟩ => ⟨S1x1x2048, .f32⟩
  | .hbm, ⟨26, _⟩ => ⟨S8x4096x2048, .f32⟩
  | .hbm, ⟨27, _⟩ => ⟨S8x4096x2048, .f32⟩
  | .hbm, ⟨28, _⟩ => ⟨S8x1x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S8x4096x2048, .f32⟩
  | .hbm, ⟨33, _⟩ => ⟨S8x4096x2048, .f32⟩
  | .hbm, ⟨34, _⟩ => ⟨S8x1x2048, .f32⟩
  | .hbm, ⟨35, _⟩ => ⟨S8x4096x2048, .f32⟩
  | .hbm, ⟨36, _⟩ => ⟨S8x4096x2048, .f32⟩
  | .hbm, ⟨37, _⟩ => ⟨S8x4096x2048, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Qkv.lean ====
abbrev S32768x2048 : Shape := ⟨2, ![32768, 2048]⟩
abbrev S2048x13120 : Shape := ⟨2, ![2048, 13120]⟩
abbrev S128 : Shape := ⟨1, ![128]⟩
abbrev S512 : Shape := ⟨1, ![512]⟩
abbrev S256 : Shape := ⟨1, ![256]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x2048 : Shape := ⟨2, ![2048, 2048]⟩
abbrev S2048x8x2x2x32 : Shape := ⟨5, ![2048, 8, 2, 2, 32]⟩
abbrev S2048x2x2x2x32 : Shape := ⟨5, ![2048, 2, 2, 2, 32]⟩
abbrev S2048x128 : Shape := ⟨2, ![2048, 128]⟩
abbrev S2048x1x2x2x32 : Shape := ⟨5, ![2048, 1, 2, 2, 32]⟩
abbrev S_ : Shape := ⟨0, ![]⟩
abbrev S2048x2176 : Shape := ⟨2, ![2048, 2176]⟩
abbrev S2048x15360 : Shape := ⟨2, ![2048, 15360]⟩
abbrev S1x2x2x32 : Shape := ⟨4, ![1, 2, 2, 32]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S3840 : Shape := ⟨1, ![3840]⟩
abbrev S1x3840 : Shape := ⟨2, ![1, 3840]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32768x3840 : Shape := ⟨2, ![32768, 3840]⟩
abbrev S32768x128 : Shape := ⟨2, ![32768, 128]⟩
abbrev S1024x2048 : Shape := ⟨2, ![1024, 2048]⟩
abbrev S2048x3968 : Shape := ⟨2, ![2048, 3968]⟩
abbrev S1024x128 : Shape := ⟨2, ![1024, 128]⟩
abbrev S1024x3840 : Shape := ⟨2, ![1024, 3840]⟩
abbrev S256x2048 : Shape := ⟨2, ![256, 2048]⟩
abbrev S256x512 : Shape := ⟨2, ![256, 512]⟩
abbrev S256x1 : Shape := ⟨2, ![256, 1]⟩
abbrev S1x512 : Shape := ⟨2, ![1, 512]⟩
abbrev S256x256 : Shape := ⟨2, ![256, 256]⟩
abbrev S1x256 : Shape := ⟨2, ![1, 256]⟩
abbrev S256x128 : Shape := ⟨2, ![256, 128]⟩

abbrev nBuf : Space → Nat
  | .hbm => 95
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S2048x13120, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512, .f32⟩
  | .hbm, ⟨7, _⟩ => ⟨S256, .f32⟩
  | .hbm, ⟨8, _⟩ => ⟨S2048x512, .f32⟩
  | .hbm, ⟨9, _⟩ => ⟨S2048x256, .f32⟩
  | .hbm, ⟨10, _⟩ => ⟨S2048x64, .f32⟩
  | .hbm, ⟨11, _⟩ => ⟨S2048x1024, .f32⟩
  | .hbm, ⟨12, _⟩ => ⟨S2048x1024, .f32⟩
  | .hbm, ⟨13, _⟩ => ⟨S2048x256, .f32⟩
  | .hbm, ⟨14, _⟩ => ⟨S2048x256, .f32⟩
  | .hbm, ⟨15, _⟩ => ⟨S2048x1024, .f32⟩
  | .hbm, ⟨16, _⟩ => ⟨S2048x1024, .f32⟩
  | .hbm, ⟨17, _⟩ => ⟨S2048x256, .f32⟩
  | .hbm, ⟨18, _⟩ => ⟨S2048x256, .f32⟩
  | .hbm, ⟨19, _⟩ => ⟨S2048x1024, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x8x2x2x32, .f32⟩
  | .hbm, ⟨24, _⟩ => ⟨S2048x8x2x2x32, .f32⟩
  | .hbm, ⟨25, _⟩ => ⟨S2048x1024, .f32⟩
  | .hbm, ⟨26, _⟩ => ⟨S2048x2x2x2x32, .f32⟩
  | .hbm, ⟨27, _⟩ => ⟨S2048x2x2x2x32, .f32⟩
  | .hbm, ⟨28, _⟩ => ⟨S2048x256, .f32⟩
  | .hbm, ⟨29, _⟩ => ⟨S2048x128, .f32⟩
  | .hbm, ⟨30, _⟩ => ⟨S2048x1x2x2x32, .f32⟩
  | .hbm, ⟨31, _⟩ => ⟨S2048x1x2x2x32, .f32⟩
  | .hbm, ⟨32, _⟩ => ⟨S2048x128, .f32⟩
  | .hbm, ⟨33, _⟩ => ⟨S_, .f32⟩
  | .hbm, ⟨34, _⟩ => ⟨S2048x2176, .f32⟩
  | .hbm, ⟨35, _⟩ => ⟨S2048x15360, .f32⟩
  | .hbm, ⟨36, _⟩ => ⟨S2048x15360, .bf16⟩
  | .hbm, ⟨37, _⟩ => ⟨S_, .f32⟩
  | .hbm, ⟨38, _⟩ => ⟨S256, .f32⟩
  | .hbm, ⟨39, _⟩ => ⟨S1x2x2x32, .f32⟩
  | .hbm, ⟨40, _⟩ => ⟨S1x2x2x32, .f32⟩
  | .hbm, ⟨41, _⟩ => ⟨S128, .f32⟩
  | .hbm, ⟨42, _⟩ => ⟨S1x128, .f32⟩
  | .hbm, ⟨43, _⟩ => ⟨S8x128, .f32⟩
  | .hbm, ⟨44, _⟩ => ⟨S1024, .f32⟩
  | .hbm, ⟨45, _⟩ => ⟨S1x2x2x32, .f32⟩
  | .hbm, ⟨46, _⟩ => ⟨S1x2x2x32, .f32⟩
  | .hbm, ⟨47, _⟩ => ⟨S128, .f32⟩
  | .hbm, ⟨48, _⟩ => ⟨S1x128, .f32⟩
  | .hbm, ⟨49, _⟩ => ⟨S2x128, .f32⟩
  | .hbm, ⟨50, _⟩ => ⟨S256, .f32⟩
  | .hbm, ⟨51, _⟩ => ⟨S1x128, .f32⟩
  | .hbm, ⟨52, _⟩ => ⟨S8x128, .f32⟩
  | .hbm, ⟨53, _⟩ => ⟨S1024, .f32⟩
  | .hbm, ⟨54, _⟩ => ⟨S1x128, .f32⟩
  | .hbm, ⟨55, _⟩ => ⟨S2x128, .f32⟩
  | .hbm, ⟨56, _⟩ => ⟨S256, .f32⟩
  | .hbm, ⟨57, _⟩ => ⟨S3840, .f32⟩
  | .hbm, ⟨58, _⟩ => ⟨S1x3840, .f32⟩
  | .hbm, ⟨59, _⟩ => ⟨S64, .f32⟩
  | .hbm, ⟨60, _⟩ => ⟨S64x64, .f32⟩
  | .hbm, ⟨61, _⟩ => ⟨S4096, .f32⟩
  | .hbm, ⟨62, _⟩ => ⟨S64, .f32⟩
  | .hbm, ⟨63, _⟩ => ⟨S1x64, .f32⟩
  | .hbm, ⟨64, _⟩ => ⟨S64x64, .f32⟩
  | .hbm, ⟨65, _⟩ => ⟨S4096, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S4096x1, .f32⟩
  | .hbm, ⟨75, _⟩ => ⟨S1x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x1, .f32⟩
  | .hbm, ⟨80, _⟩ => ⟨S1x32, .f32⟩
  | .hbm, ⟨81, _⟩ => ⟨S4096x32, .f32⟩
  | .hbm, ⟨82, _⟩ => ⟨S4096x32, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x64, .f32⟩
  | .hbm, ⟨87, _⟩ => ⟨S4096x32, .f32⟩
  | .hbm, ⟨88, _⟩ => ⟨S4096x32, .f32⟩
  | .hbm, ⟨89, _⟩ => ⟨S4096x64, .f32⟩
  | .hbm, ⟨90, _⟩ => ⟨S4096x128, .f32⟩
  | .hbm, ⟨91, _⟩ => ⟨S4096x64, .f32⟩
  | .hbm, ⟨92, _⟩ => ⟨S4096x128, .f32⟩
  | .hbm, ⟨93, _⟩ => ⟨S32768x3840, .bf16⟩
  | .hbm, ⟨94, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x3968, .bf16⟩
  | .local _ .vmem, ⟨3, _⟩ => ⟨S1x3840, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x3840, .bf16⟩
  | .local _ .vmem, ⟨9, _⟩ => ⟨S1024x3840, .bf16⟩
  | .local _ .vmem, ⟨10, _⟩ => ⟨S1024x128, .f32⟩
  | .local _ .vmem, ⟨11, _⟩ => ⟨S1024x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_1 : Ref sig .tc := ⟨.hbm, 68, rfl⟩
abbrev main_v58 : Ref sig .tc := ⟨.hbm, 69, rfl⟩
abbrev main_v59 : Ref sig .tc := ⟨.hbm, 70, rfl⟩
abbrev main_cst_2 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81_0 : Ref sig .tc := ⟨.hbm, 93, rfl⟩
abbrev main_v81_1 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3968 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3840 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S32768x2048 : Shape := ⟨2, ![32768, 2048]⟩
abbrev S2048x13120 : Shape := ⟨2, ![2048, 13120]⟩
abbrev S128 : Shape := ⟨1, ![128]⟩
abbrev S512 : Shape := ⟨1, ![512]⟩
abbrev S256 : Shape := ⟨1, ![256]⟩
abbrev S32768x13120 : Shape := ⟨2, ![32768, 13120]⟩
abbrev S8x4096x13120 : Shape := ⟨3, ![8, 4096, 13120]⟩
abbrev S8x4096x512 : Shape := ⟨3, ![8, 4096, 512]⟩
abbrev S8x4096x256 : Shape := ⟨3, ![8, 4096, 256]⟩
abbrev S8x4096x64 : Shape := ⟨3, ![8, 4096, 64]⟩
abbrev S8x4096x1024 : Shape := ⟨3, ![8, 4096, 1024]⟩
abbrev S8x4096x2048 : Shape := ⟨3, ![8, 4096, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x8x64 : Shape := ⟨4, ![8, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S32768x1024 : Shape := ⟨2, ![32768, 1024]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x2x64 : Shape := ⟨4, ![8, 4096, 2, 64]⟩
abbrev S8x4096x2x32 : Shape := ⟨4, ![8, 4096, 2, 32]⟩
abbrev S32768x256 : Shape := ⟨2, ![32768, 256]⟩
abbrev S8x4096 : Shape := ⟨2, ![8, 4096]⟩
abbrev S8x4096x1 : Shape := ⟨3, ![8, 4096, 1]⟩
abbrev S1x1x512 : Shape := ⟨3, ![1, 1, 512]⟩
abbrev S32768x512 : Shape := ⟨2, ![32768, 512]⟩
abbrev S1x1x256 : Shape := ⟨3, ![1, 1, 256]⟩
abbrev S32768x64 : Shape := ⟨2, ![32768, 64]⟩
abbrev S32768x3840 : Shape := ⟨2, ![32768, 3840]⟩
abbrev S32768x32 : Shape := ⟨2, ![32768, 32]⟩
abbrev S32768x128 : Shape := ⟨2, ![32768, 128]⟩

abbrev nBuf : Space → Nat
  | .hbm => 271
  | .vmem => 0
  | .smem => 0
  | _ => 0

abbrev hbmTy0_0 (i : Nat) : BufTy := match i % 128 with
  | 0 => ⟨S32768x2048, .bf16⟩
  | 1 => ⟨S2048x13120, .f32⟩
  | 2 => ⟨S128, .f32⟩
  | 3 => ⟨S128, .f32⟩
  | 4 => ⟨S128, .f32⟩
  | 5 => ⟨S128, .f32⟩
  | 6 => ⟨S512, .f32⟩
  | 7 => ⟨S256, .f32⟩
  | 8 => ⟨S32768x2048, .f32⟩
  | 9 => ⟨S32768x13120, .f32⟩
  | 10 => ⟨S8x4096x13120, .f32⟩
  | 11 => ⟨S8x4096x512, .f32⟩
  | 12 => ⟨S8x4096x256, .f32⟩
  | 13 => ⟨S8x4096x64, .f32⟩
  | 14 => ⟨S8x4096x1024, .f32⟩
  | 15 => ⟨S8x4096x1024, .f32⟩
  | 16 => ⟨S8x4096x256, .f32⟩
  | 17 => ⟨S8x4096x256, .f32⟩
  | 18 => ⟨S8x4096x1024, .f32⟩
  | 19 => ⟨S8x4096x1024, .f32⟩
  | 20 => ⟨S8x4096x256, .f32⟩
  | 21 => ⟨S8x4096x256, .f32⟩
  | 22 => ⟨S8x4096x1024, .f32⟩
  | 23 => ⟨S8x4096x2048, .f32⟩
  | 24 => ⟨S8x4096x2048, .f32⟩
  | 25 => ⟨S8x4096x2048, .f32⟩
  | 26 => ⟨S64, .f32⟩
  | 27 => ⟨S64x64, .f32⟩
  | 28 => ⟨S4096, .f32⟩
  | 29 => ⟨S64, .f32⟩
  | 30 => ⟨S1x64, .f32⟩
  | 31 => ⟨S64x64, .f32⟩
  | 32 => ⟨S4096, .f32⟩
  | 33 => ⟨S8x4096x8x128, .f32⟩
  | 34 => ⟨S8x4096x8x128, .f32⟩
  | 35 => ⟨S_, .f32⟩
  | 36 => ⟨S8x4096x8, .f32⟩
  | 37 => ⟨S8x4096x8x1, .f32⟩
  | 38 => ⟨S_, .f32⟩
  | 39 => ⟨S8x4096x8x1, .f32⟩
  | 40 => ⟨S8x4096x8x1, .f32⟩
  | 41 => ⟨S_, .f32⟩
  | 42 => ⟨S8x4096x8x1, .f32⟩
  | 43 => ⟨S8x4096x8x1, .f32⟩
  | 44 => ⟨S8x4096x8x1, .f32⟩
  | 45 => ⟨S8x4096x8x128, .f32⟩
  | 46 => ⟨S8x4096x8x128, .f32⟩
  | 47 => ⟨S1x1x1x128, .f32⟩
  | 48 => ⟨S8x4096x8x128, .f32⟩
  | 49 => ⟨S8x4096x8x128, .f32⟩
  | 50 => ⟨S8x4096x8x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S4096x1, .f32⟩
  | 60 => ⟨S1x32, .f32⟩
  | 61 => ⟨S4096x32, .f32⟩
  | 62 => ⟨S4096x32, .f32⟩
  | 63 => ⟨S4096x32, .f32⟩
  | 64 => ⟨S4096x32, .f32⟩
  | 65 => ⟨S1x4096x1x32, .f32⟩
  | 66 => ⟨S4096x32, .f32⟩
  | 67 => ⟨S1x4096x1x32, .f32⟩
  | 68 => ⟨S8x4096x8x32, .f32⟩
  | 69 => ⟨S8x4096x8x32, .f32⟩
  | 70 => ⟨S8x4096x8x32, .f32⟩
  | 71 => ⟨S8x4096x8x32, .f32⟩
  | 72 => ⟨S8x4096x8x32, .f32⟩
  | 73 => ⟨S8x4096x8x32, .f32⟩
  | 74 => ⟨S8x4096x8x32, .f32⟩
  | 75 => ⟨S8x4096x8x32, .f32⟩
  | 76 => ⟨S8x4096x8x32, .f32⟩
  | 77 => ⟨S8x4096x8x32, .f32⟩
  | 78 => ⟨S8x4096x8x32, .f32⟩
  | 79 => ⟨S8x4096x8x32, .f32⟩
  | 80 => ⟨S8x4096x8x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S4096x1, .f32⟩
  | 90 => ⟨S1x32, .f32⟩
  | 91 => ⟨S4096x32, .f32⟩
  | 92 => ⟨S4096x32, .f32⟩
  | 93 => ⟨S4096x32, .f32⟩
  | 94 => ⟨S4096x32, .f32⟩
  | 95 => ⟨S1x4096x1x32, .f32⟩
  | 96 => ⟨S4096x32, .f32⟩
  | 97 => ⟨S1x4096x1x32, .f32⟩
  | 98 => ⟨S8x4096x8x32, .f32⟩
  | 99 => ⟨S8x4096x8x32, .f32⟩
  | 100 => ⟨S8x4096x8x32, .f32⟩
  | 101 => ⟨S8x4096x8x32, .f32⟩
  | 102 => ⟨S8x4096x8x32, .f32⟩
  | 103 => ⟨S8x4096x8x32, .f32⟩
  | 104 => ⟨S8x4096x8x32, .f32⟩
  | 105 => ⟨S8x4096x8x32, .f32⟩
  | 106 => ⟨S8x4096x8x32, .f32⟩
  | 107 => ⟨S8x4096x8x32, .f32⟩
  | 108 => ⟨S8x4096x8x32, .f32⟩
  | 109 => ⟨S8x4096x8x32, .f32⟩
  | 110 => ⟨S8x4096x8x128, .f32⟩
  | 111 => ⟨S32768x1024, .f32⟩
  | 112 => ⟨S8x4096x2x128, .f32⟩
  | 113 => ⟨S8x4096x2x128, .f32⟩
  | 114 => ⟨S_, .f32⟩
  | 115 => ⟨S8x4096x2, .f32⟩
  | 116 => ⟨S8x4096x2x1, .f32⟩
  | 117 => ⟨S_, .f32⟩
  | 118 => ⟨S8x4096x2x1, .f32⟩
  | 119 => ⟨S8x4096x2x1, .f32⟩
  | 120 => ⟨S_, .f32⟩
  | 121 => ⟨S8x4096x2x1, .f32⟩
  | 122 => ⟨S8x4096x2x1, .f32⟩
  | 123 => ⟨S8x4096x2x1, .f32⟩
  | 124 => ⟨S8x4096x2x128, .f32⟩
  | 125 => ⟨S8x4096x2x128, .f32⟩
  | 126 => ⟨S1x1x1x128, .f32⟩
  | 127 => ⟨S8x4096x2x128, .f32⟩
  | _ => ⟨S32768x2048, .bf16⟩

abbrev hbmTy0_1 (i : Nat) : BufTy := match i % 128 with
  | 0 => ⟨S8x4096x2x128, .f32⟩
  | 1 => ⟨S8x4096x2x64, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S4096x1, .f32⟩
  | 11 => ⟨S1x32, .f32⟩
  | 12 => ⟨S4096x32, .f32⟩
  | 13 => ⟨S4096x32, .f32⟩
  | 14 => ⟨S4096x32, .f32⟩
  | 15 => ⟨S4096x32, .f32⟩
  | 16 => ⟨S1x4096x1x32, .f32⟩
  | 17 => ⟨S4096x32, .f32⟩
  | 18 => ⟨S1x4096x1x32, .f32⟩
  | 19 => ⟨S8x4096x2x32, .f32⟩
  | 20 => ⟨S8x4096x2x32, .f32⟩
  | 21 => ⟨S8x4096x2x32, .f32⟩
  | 22 => ⟨S8x4096x2x32, .f32⟩
  | 23 => ⟨S8x4096x2x32, .f32⟩
  | 24 => ⟨S8x4096x2x32, .f32⟩
  | 25 => ⟨S8x4096x2x32, .f32⟩
  | 26 => ⟨S8x4096x2x32, .f32⟩
  | 27 => ⟨S8x4096x2x32, .f32⟩
  | 28 => ⟨S8x4096x2x32, .f32⟩
  | 29 => ⟨S8x4096x2x32, .f32⟩
  | 30 => ⟨S8x4096x2x32, .f32⟩
  | 31 => ⟨S8x4096x2x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S4096x1, .f32⟩
  | 41 => ⟨S1x32, .f32⟩
  | 42 => ⟨S4096x32, .f32⟩
  | 43 => ⟨S4096x32, .f32⟩
  | 44 => ⟨S4096x32, .f32⟩
  | 45 => ⟨S4096x32, .f32⟩
  | 46 => ⟨S1x4096x1x32, .f32⟩
  | 47 => ⟨S4096x32, .f32⟩
  | 48 => ⟨S1x4096x1x32, .f32⟩
  | 49 => ⟨S8x4096x2x32, .f32⟩
  | 50 => ⟨S8x4096x2x32, .f32⟩
  | 51 => ⟨S8x4096x2x32, .f32⟩
  | 52 => ⟨S8x4096x2x32, .f32⟩
  | 53 => ⟨S8x4096x2x32, .f32⟩
  | 54 => ⟨S8x4096x2x32, .f32⟩
  | 55 => ⟨S8x4096x2x32, .f32⟩
  | 56 => ⟨S8x4096x2x32, .f32⟩
  | 57 => ⟨S8x4096x2x32, .f32⟩
  | 58 => ⟨S8x4096x2x32, .f32⟩
  | 59 => ⟨S8x4096x2x32, .f32⟩
  | 60 => ⟨S8x4096x2x32, .f32⟩
  | 61 => ⟨S8x4096x2x128, .f32⟩
  | 62 => ⟨S32768x256, .f32⟩
  | 63 => ⟨S8x4096x8x128, .f32⟩
  | 64 => ⟨S8x4096x8x128, .f32⟩
  | 65 => ⟨S_, .f32⟩
  | 66 => ⟨S8x4096x8, .f32⟩
  | 67 => ⟨S8x4096x8x1, .f32⟩
  | 68 => ⟨S_, .f32⟩
  | 69 => ⟨S8x4096x8x1, .f32⟩
  | 70 => ⟨S8x4096x8x1, .f32⟩
  | 71 => ⟨S_, .f32⟩
  | 72 => ⟨S8x4096x8x1, .f32⟩
  | 73 => ⟨S8x4096x8x1, .f32⟩
  | 74 => ⟨S8x4096x8x1, .f32⟩
  | 75 => ⟨S8x4096x8x128, .f32⟩
  | 76 => ⟨S8x4096x8x128, .f32⟩
  | 77 => ⟨S1x1x1x128, .f32⟩
  | 78 => ⟨S8x4096x8x128, .f32⟩
  | 79 => ⟨S8x4096x8x128, .f32⟩
  | 80 => ⟨S32768x1024, .f32⟩
  | 81 => ⟨S8x4096x2x128, .f32⟩
  | 82 => ⟨S8x4096x2x128, .f32⟩
  | 83 => ⟨S_, .f32⟩
  | 84 => ⟨S8x4096x2, .f32⟩
  | 85 => ⟨S8x4096x2x1, .f32⟩
  | 86 => ⟨S_, .f32⟩
  | 87 => ⟨S8x4096x2x1, .f32⟩
  | 88 => ⟨S8x4096x2x1, .f32⟩
  | 89 => ⟨S_, .f32⟩
  | 90 => ⟨S8x4096x2x1, .f32⟩
  | 91 => ⟨S8x4096x2x1, .f32⟩
  | 92 => ⟨S8x4096x2x1, .f32⟩
  | 93 => ⟨S8x4096x2x128, .f32⟩
  | 94 => ⟨S8x4096x2x128, .f32⟩
  | 95 => ⟨S1x1x1x128, .f32⟩
  | 96 => ⟨S8x4096x2x128, .f32⟩
  | 97 => ⟨S8x4096x2x128, .f32⟩
  | 98 => ⟨S32768x256, .f32⟩
  | 99 => ⟨S8x4096x512, .f32⟩
  | 100 => ⟨S_, .f32⟩
  | 101 => ⟨S8x4096, .f32⟩
  | 102 => ⟨S8x4096x1, .f32⟩
  | 103 => ⟨S_, .f32⟩
  | 104 => ⟨S8x4096x1, .f32⟩
  | 105 => ⟨S8x4096x1, .f32⟩
  | 106 => ⟨S_, .f32⟩
  | 107 => ⟨S8x4096x1, .f32⟩
  | 108 => ⟨S8x4096x1, .f32⟩
  | 109 => ⟨S8x4096x1, .f32⟩
  | 110 => ⟨S8x4096x512, .f32⟩
  | 111 => ⟨S8x4096x512, .f32⟩
  | 112 => ⟨S1x1x512, .f32⟩
  | 113 => ⟨S8x4096x512, .f32⟩
  | 114 => ⟨S8x4096x512, .f32⟩
  | 115 => ⟨S32768x512, .f32⟩
  | 116 => ⟨S8x4096x256, .f32⟩
  | 117 => ⟨S_, .f32⟩
  | 118 => ⟨S8x4096, .f32⟩
  | 119 => ⟨S8x4096x1, .f32⟩
  | 120 => ⟨S_, .f32⟩
  | 121 => ⟨S8x4096x1, .f32⟩
  | 122 => ⟨S8x4096x1, .f32⟩
  | 123 => ⟨S_, .f32⟩
  | 124 => ⟨S8x4096x1, .f32⟩
  | 125 => ⟨S8x4096x1, .f32⟩
  | 126 => ⟨S8x4096x1, .f32⟩
  | 127 => ⟨S8x4096x256, .f32⟩
  | _ => ⟨S32768x2048, .bf16⟩

abbrev hbmTy0_2 (i : Nat) : BufTy := match i % 128 with
  | 0 => ⟨S8x4096x256, .f32⟩
  | 1 => ⟨S1x1x256, .f32⟩
  | 2 => ⟨S8x4096x256, .f32⟩
  | 3 => ⟨S8x4096x256, .f32⟩
  | 4 => ⟨S32768x256, .f32⟩
  | 5 => ⟨S32768x64, .f32⟩
  | 6 => ⟨S32768x256, .f32⟩
  | 7 => ⟨S32768x256, .f32⟩
  | 8 => ⟨S32768x3840, .f32⟩
  | 9 => ⟨S32768x3840, .bf16⟩
  | 10 => ⟨S32768x32, .f32⟩
  | 11 => ⟨S32768x32, .f32⟩
  | 12 => ⟨S32768x32, .f32⟩
  | 13 => ⟨S32768x32, .f32⟩
  | 14 => ⟨S32768x128, .f32⟩
  | _ => ⟨S32768x2048, .bf16⟩

abbrev hbmTy (i : Nat) : BufTy := match i / 128 with
  | 0 => hbmTy0_0 i
  | 1 => hbmTy0_1 i
  | 2 => hbmTy0_2 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_4 : Ref sig .tc := ⟨.hbm, 83, rfl⟩
abbrev main_v70 : Ref sig .tc := ⟨.hbm, 84, rfl⟩
abbrev main_v71 : Ref sig .tc := ⟨.hbm, 85, rfl⟩
abbrev main_cst_5 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_6 : Ref sig .tc := ⟨.hbm, 114, rfl⟩
abbrev main_v99 : Ref sig .tc := ⟨.hbm, 115, rfl⟩
abbrev main_v100 : Ref sig .tc := ⟨.hbm, 116, rfl⟩
abbrev main_cst_7 : Ref sig .tc := ⟨.hbm, 117, rfl⟩
abbrev main_v101 : Ref sig .tc := ⟨.hbm, 118, rfl⟩
abbrev main_v102 : Ref sig .tc := ⟨.hbm, 119, rfl⟩
abbrev main_cst_8 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_9 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_11 : Ref sig .tc := ⟨.hbm, 162, rfl⟩
abbrev main_v142 : Ref sig .tc := ⟨.hbm, 163, rfl⟩
abbrev main_v143 : Ref sig .tc := ⟨.hbm, 164, rfl⟩
abbrev main_cst_12 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_cst_13 : Ref sig .tc := ⟨.hbm, 193, rfl⟩
abbrev main_v171 : Ref sig .tc := ⟨.hbm, 194, rfl⟩
abbrev main_v172 : Ref sig .tc := ⟨.hbm, 195, rfl⟩
abbrev main_cst_14 : Ref sig .tc := ⟨.hbm, 196, rfl⟩
abbrev main_v173 : Ref sig .tc := ⟨.hbm, 197, rfl⟩
abbrev main_v174 : Ref sig .tc := ⟨.hbm, 198, rfl⟩
abbrev main_cst_15 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_cst_16 : Ref sig .tc := ⟨.hbm, 211, rfl⟩
abbrev main_v186 : Ref sig .tc := ⟨.hbm, 212, rfl⟩
abbrev main_v187 : Ref sig .tc := ⟨.hbm, 213, rfl⟩
abbrev main_cst_17 : Ref sig .tc := ⟨.hbm, 214, rfl⟩
abbrev main_v188 : Ref sig .tc := ⟨.hbm, 215, rfl⟩
abbrev main_v189 : Ref sig .tc := ⟨.hbm, 216, rfl⟩
abbrev main_cst_18 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_cst_19 : Ref sig .tc := ⟨.hbm, 228, rfl⟩
abbrev main_v200 : Ref sig .tc := ⟨.hbm, 229, rfl⟩
abbrev main_v201 : Ref sig .tc := ⟨.hbm, 230, rfl⟩
abbrev main_cst_20 : Ref sig .tc := ⟨.hbm, 231, rfl⟩
abbrev main_v202 : Ref sig .tc := ⟨.hbm, 232, rfl⟩
abbrev main_v203 : Ref sig .tc := ⟨.hbm, 233, rfl⟩
abbrev main_cst_21 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_cst_22 : Ref sig .tc := ⟨.hbm, 245, rfl⟩
abbrev main_v214 : Ref sig .tc := ⟨.hbm, 246, rfl⟩
abbrev main_v215 : Ref sig .tc := ⟨.hbm, 247, rfl⟩
abbrev main_cst_23 : Ref sig .tc := ⟨.hbm, 248, rfl⟩
abbrev main_v216 : Ref sig .tc := ⟨.hbm, 249, rfl⟩
abbrev main_v217 : Ref sig .tc := ⟨.hbm, 250, rfl⟩
abbrev main_cst_24 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.Reduce

@[expose] public section

/-!
# Attention in one pass and in two

The row identities of softmax attention over the extended reals: the weighted mean a running maximum
computes chunk by chunk is the weighted mean of the softmax weights.  The scores are real numbers; the
values averaged may be infinite.
-/

namespace Attn
open Idealize.ShloMosaic

/-- An extended real that is a real number. -/
def Re (x : EReal) : Prop := ∃ r : ℝ, x = (r : EReal)

theorem Re.coe (r : ℝ) : Re (r : EReal) := ⟨r, rfl⟩
theorem Re.mul {x y : EReal} (hx : Re x) (hy : Re y) : Re (x * y) := by
  obtain ⟨a, rfl⟩ := hx; obtain ⟨b, rfl⟩ := hy; exact ⟨a * b, by rw [EReal.coe_mul]⟩
theorem Re.add {x y : EReal} (hx : Re x) (hy : Re y) : Re (x + y) := by
  obtain ⟨a, rfl⟩ := hx; obtain ⟨b, rfl⟩ := hy; exact ⟨a + b, by rw [EReal.coe_add]⟩
theorem Re.max {x y : EReal} (hx : Re x) (hy : Re y) : Re (max x y) := by
  rcases max_choice x y with h | h <;> rw [h] <;> assumption
theorem Re.max_bot {x : EReal} (hx : Re x) : Re (Max.max ⊥ x) := by rwa [max_eq_right bot_le]
theorem Re.sum {ι : Type*} (s : Finset ι) (f : ι → EReal) (h : ∀ i ∈ s, Re (f i)) : Re (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The greatest of finitely many reals, at least one, is a real. -/
theorem Re.fold_max {ι : Type*} (s : Finset ι) (hs : s.Nonempty) (f : ι → EReal) (h : ∀ i ∈ s, Re (f i)) :
    Re (s.fold Max.max ⊥ f) := by
  classical
  induction hs using Finset.Nonempty.cons_induction with
  | singleton a => rw [Finset.fold_singleton, max_eq_left bot_le]; exact h a (Finset.mem_singleton_self a)
  | cons a s ha hs ih =>
    rw [Finset.fold_cons]
    exact (h a (Finset.mem_cons_self a s)).max (ih fun i hi => h i (Finset.mem_cons_of_mem hi))

/-- A bounded magnitude is a real number. -/
theorem Re.of_abs_lt_top {x : EReal} (h : Max.max x (-x) < ⊤) : Re x := by
  induction x with
  | bot => simp at h
  | top => simp at h
  | coe r => exact ⟨r, rfl⟩

/-- What a comparison of the magnitude with plus infinity says. -/
theorem Re.of_cmp {x : EReal} (h : Ideal.cmp .olt (Max.max x (-x)) ⊤ = 1#1) : Re x := by
  refine Re.of_abs_lt_top ?_
  by_contra hn
  simp [Ideal.cmp, hn] at h

theorem and_bits {a b : BitVec 1} (h : a &&& b = 1#1) : a = 1#1 ∧ b = 1#1 := by
  revert a b
  decide

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A real factor goes into a sum of reals. -/
theorem mul_sum_re {ι : Type*} (s : Finset ι) {c : EReal} (hc : Re c) (f : ι → EReal) (hf : ∀ i ∈ s, Re (f i)) :
    c * ∑ i ∈ s, f i = ∑ i ∈ s, c * f i := by
  classical
  obtain ⟨c, rfl⟩ := hc
  have hf' : ∀ i ∈ s, f i = ((f i).toReal : EReal) := fun i hi => by
    obtain ⟨r, hr⟩ := hf i hi; rw [hr, EReal.toReal_coe]
  rw [Finset.sum_congr rfl hf', ← coe_sum, ← EReal.coe_mul, Finset.mul_sum, coe_sum]
  exact Finset.sum_congr rfl fun i hi => by rw [hf' i hi, EReal.toReal_coe, EReal.coe_mul]

/-- A power of two as an exponential. -/
theorem exp2_coe_sub (y m : ℝ) :
    Ideal.exp2 ((y : EReal) - (m : EReal)) = ((Real.exp (y * Real.log 2) * Real.exp (-(m * Real.log 2)) : ℝ) : EReal) := by
  rw [← EReal.coe_sub, Ideal.exp2_coe, ← Real.exp_add]
  congr 1
  show (2 : ℝ) ^ (y - m) = _
  rw [Real.rpow_def_of_pos (by norm_num)]
  congr 1; ring

theorem exp_coe_sub (x m : ℝ) :
    Ideal.exp ((x : EReal) - (m : EReal)) = ((Real.exp x * Real.exp (-m) : ℝ) : EReal) := by
  rw [← EReal.coe_sub, Ideal.exp_coe, ← Real.exp_add]; rfl

section Rows
variable {ι κ : Type*} [Fintype ι] [Fintype κ]

/-- The softmax row: each weight divided by the sum of the weights, whatever real number was subtracted from
    the scores first. -/
theorem softmax_row [Nonempty ι] (x : ι → ℝ) (m : ℝ) (v : ι → EReal) :
    ∑ i, v i * Ideal.div (Ideal.exp ((x i : EReal) - m)) (0 + ∑ k, Ideal.exp ((x k : EReal) - m)) =
      (((∑ k, Real.exp (x k))⁻¹ : ℝ) : EReal) * ∑ i, (Real.exp (x i) : EReal) * v i := by
  have hZ : 0 < ∑ k, Real.exp (x k) := Finset.sum_pos (fun i _ => Real.exp_pos _) Finset.univ_nonempty
  have hden : (0 : EReal) + ∑ k, Ideal.exp ((x k : EReal) - m)
      = (((∑ k, Real.exp (x k)) * Real.exp (-m) : ℝ) : EReal) := by
    rw [zero_add, Finset.sum_mul, coe_sum]; exact Finset.sum_congr rfl fun k _ => exp_coe_sub _ _
  rw [coe_mul_sum _ (by positivity)]
  refine Finset.sum_congr rfl fun i _ => ?_
  have hne : (∑ k, Real.exp (x k)) * Real.exp (-m) ≠ 0 := by positivity
  rw [hden, Ideal.div_coe hne, exp_coe_sub, mul_comm (v i), ← EReal.coe_mul, ← mul_assoc, ← EReal.coe_mul]
  congr 2
  have := Real.exp_pos (-m)
  field_simp

/-- Two chunks, each with its own maximum: what the running maximum leaves of the first, plus the second. -/
theorem twoChunks (y : ι → ℝ) (z : κ → ℝ) (m n : ℝ) (v : ι → EReal) (w : κ → EReal) :
    Ideal.exp2 ((m : EReal) - n) * ∑ i, Ideal.exp2 ((y i : EReal) - m) * v i + ∑ k, Ideal.exp2 ((z k : EReal) - n) * w k
      = (Real.exp (-(n * Real.log 2)) : EReal) *
          (∑ i, (Real.exp (y i * Real.log 2) : EReal) * v i + ∑ k, (Real.exp (z k * Real.log 2) : EReal) * w k) := by
  have hn : (0 : EReal) ≤ (Real.exp (-(n * Real.log 2)) : EReal) := by exact_mod_cast (Real.exp_pos _).le
  rw [EReal.left_distrib_of_nonneg_of_ne_top hn (EReal.coe_ne_top _), coe_mul_sum _ (Real.exp_pos _).le,
    coe_mul_sum _ (Real.exp_pos _).le, exp2_coe_sub, coe_mul_sum _ (by positivity)]
  congr 1 <;> refine Finset.sum_congr rfl fun i _ => ?_
  · rw [exp2_coe_sub, ← mul_assoc, ← mul_assoc, ← EReal.coe_mul, ← EReal.coe_mul]
    congr 2
    rw [← Real.exp_add, ← Real.exp_add, ← Real.exp_add, ← Real.exp_add]
    congr 1; ring
  · rw [exp2_coe_sub, ← mul_assoc, ← EReal.coe_mul, mul_comm (Real.exp (z i * _))]

/-- The quotient of two chunked sums over the same scores, the second with every value one. -/
theorem twoChunks_div [Nonempty ι] (y : ι → ℝ) (z : κ → ℝ) (m n : ℝ) (v : ι → EReal) (w : κ → EReal) :
    Ideal.div
        (Ideal.exp2 ((m : EReal) - n) * ∑ i, Ideal.exp2 ((y i : EReal) - m) * v i + ∑ k, Ideal.exp2 ((z k : EReal) - n) * w k)
        (Ideal.exp2 ((m : EReal) - n) * ∑ i, Ideal.exp2 ((y i : EReal) - m) * 1 + ∑ k, Ideal.exp2 ((z k : EReal) - n) * 1)
      = (((∑ i, Real.exp (y i * Real.log 2) + ∑ k, Real.exp (z k * Real.log 2))⁻¹ : ℝ) : EReal) *
          (∑ i, (Real.exp (y i * Real.log 2) : EReal) * v i + ∑ k, (Real.exp (z k * Real.log 2) : EReal) * w k) := by
  rw [twoChunks, twoChunks]
  simp only [mul_one]
  rw [← coe_sum, ← coe_sum, ← EReal.coe_add, ← EReal.coe_mul]
  have hZ : 0 < ∑ i, Real.exp (y i * Real.log 2) + ∑ k, Real.exp (z k * Real.log 2) :=
    add_pos_of_pos_of_nonneg (Finset.sum_pos (fun i _ => Real.exp_pos _) Finset.univ_nonempty)
      (Finset.sum_nonneg fun i _ => (Real.exp_pos _).le)
  have hn := Real.exp_pos (-(n * Real.log 2))
  rw [Ideal.div_coe (by positivity), mul_comm, ← mul_assoc, ← EReal.coe_mul]
  congr 2
  field_simp

end Rows

/-- A row of attention over `a + b` keys: computed in two chunks with a running maximum and powers of two of
    the scores divided by `log 2`, or as the softmax of the scores. -/
theorem attention_row {a b : ℕ} [NeZero a] (s : Fin (a + b) → EReal) (hs : ∀ j, Re (s j)) (y : Fin (a + b) → EReal)
    (hy : ∀ j, y j = s j * (((Real.log 2)⁻¹ : ℝ) : EReal))
    (v : Fin (a + b) → EReal) {m n x : EReal} (hm : Re m) (hn : Re n) (hx : Re x) :
    Ideal.div
        (Ideal.exp2 (m - n) * ∑ i, Ideal.exp2 (y (Fin.castAdd b i) - m) * v (Fin.castAdd b i)
          + ∑ k, Ideal.exp2 (y (Fin.natAdd a k) - n) * v (Fin.natAdd a k))
        (Ideal.exp2 (m - n) * ∑ i, Ideal.exp2 (y (Fin.castAdd b i) - m) * 1
          + ∑ k, Ideal.exp2 (y (Fin.natAdd a k) - n) * 1)
      = ∑ j, v j * Ideal.div (Ideal.exp (s j - x)) (0 + ∑ k, Ideal.exp (s k - x)) := by
  obtain ⟨m, rfl⟩ := hm; obtain ⟨n, rfl⟩ := hn; obtain ⟨x, rfl⟩ := hx
  choose s' hs' using hs
  obtain rfl : s = fun j => (s' j : EReal) := funext hs'
  have hy' : y = fun j => ((s' j * (Real.log 2)⁻¹ : ℝ) : EReal) := funext fun j => by rw [hy, EReal.coe_mul]
  subst hy'
  have hl : Real.log 2 ≠ 0 := (Real.log_pos (by norm_num)).ne'
  haveI : Nonempty (Fin a) := ⟨0⟩
  haveI : Nonempty (Fin (a + b)) := ⟨Fin.castAdd b 0⟩
  rw [twoChunks_div (fun i => s' (Fin.castAdd b i) * (Real.log 2)⁻¹) (fun k => s' (Fin.natAdd a k) * (Real.log 2)⁻¹),
    softmax_row, Fin.sum_univ_add, Fin.sum_univ_add]
  simp only [mul_assoc, inv_mul_cancel₀ hl, mul_one]

/-- A score whose query was scaled first: the plain score divided by `r`, over `log 2`. -/
theorem scaled_score {n : ℕ} (q k : Fin n → EReal) (hq : ∀ d, Re (q d)) (hk : ∀ d, Re (k d)) {r : ℝ} (hr : r ≠ 0) :
    ∑ d, q d * ((r⁻¹ * (Real.log 2)⁻¹ : ℝ) : EReal) * k d
      = Ideal.div (∑ d, q d * k d) (r : EReal) * (((Real.log 2)⁻¹ : ℝ) : EReal) := by
  choose a ha using hq
  choose b hb using hk
  simp only [ha, hb, ← EReal.coe_mul, ← coe_sum, Ideal.div_coe hr]
  congr 1
  rw [Finset.sum_mul, Finset.sum_mul]
  exact Finset.sum_congr rfl fun d _ => by rw [one_div]; ring

/-- A plain score is a real number. -/
theorem Re.score {n : ℕ} (q k : Fin n → EReal) (hq : ∀ d, Re (q d)) (hk : ∀ d, Re (k d)) {r : ℝ} (hr : r ≠ 0) :
    Re (Ideal.div (∑ d, q d * k d) (r : EReal)) := by
  rw [Ideal.div_coe hr]
  exact (Re.sum _ _ fun d _ => (hq d).mul (hk d)).mul (Re.coe _)

/-- The greatest element along one axis of an array of reals is a real. -/
theorem Re.reduce_max {s t u : Shape} {a : Fin s.rank} (x : FVec Ideal s .f32) (init : FVec Ideal u .f32) (h' : s.ReducesTo [a] t)
    (h : s.Reduces [a] t) (hu : 0 < u.numel) (hn : 0 < s.size a) (hx : ∀ i, Re (x i)) (hi : ∀ i, init i = (⊥ : EReal)) (j : t.Idx) :
    Re (Host.reduce (α := Ideal .f32) (FloatOps.maximumf (F := Ideal) (φ := .f32)) x init h' hu j) := by
  show Re (Host.reduce (α := EReal) Max.max x init h' hu j)
  rw [Host.reduce_eq_fold_single (α := EReal) Max.max x init h' h hu j, hi]
  haveI : Nonempty (Fin (s.size a)) := ⟨⟨0, hn⟩⟩
  exact Re.fold_max Finset.univ Finset.univ_nonempty (fun k => x (h.lift j k)) fun k _ => hx _

/-- The pattern the maxima start from is minus infinity. -/
theorem ofBits_bot : Ideal.ofBits .f32 0xFF800000#32 = ⊥ := by
  simp [Ideal.ofBits, Ideal.ieee]

/-- The pattern the magnitudes are compared with is plus infinity. -/
theorem ofBits_top : Ideal.ofBits .f32 0x7F800000#32 = ⊤ := by
  simp [Ideal.ofBits, Ideal.ieee]

theorem sqrt_192 : Ideal.sqrt (Ideal.ofBits .f32 0x43400000#32) = ((Real.sqrt 192 : ℝ) : EReal) := by
  have h : Ideal.ofBits .f32 0x43400000#32 = ((192 : ℝ) : EReal) := by
    simp [Ideal.ofBits, Ideal.ieee, -EReal.coe_mul]; norm_num
  rw [h, Ideal.sqrt_coe, if_neg (by norm_num)]

theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

end Attn
-- ==== Proof.AxialRows.lean ====
module

public import proofs.«01_k».proof.Proof.Softmax
public import proofs.«01_k».proof.Proof.Gen.AxialIdeal.Value
public import proofs.«01_k».proof.Proof.Gen.AxialRefIdeal.Run
public import proofs.«01_k».proof.Proof.Gen.AxialRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

namespace Axial
open Cert.AxialIdeal Cert.AxialIdeal.Gen Idealize.ShloMosaic Idealize.ShloMosaic.TcCoe Idealize.SL.Sem
open Cert.AxialRefIdeal.Read

variable (m : (ℓ : Loc nD τ sig) → Buf (Elt Ideal) ℓ)

/-- The attention of the four heads of 256 query rows, one head below the other. -/
noncomputable def att (q0 q1 q2 q3 : Vec Ideal S1x256x128 .bf16) (k0 k1 : Vec Ideal S1x2048x128 .bf16)
    (e0 e1 : Vec Ideal S2048x256 .bf16) : FVec Ideal S1024x128 .f32 :=
  k0_pay11 (F := Ideal) (k0_pay8 q0 q1 q2 q3 k1) (k0_pay9 q0 q1 q2 q3 k0) (k0_pay10 q0 q1 q2 q3 k0) e0 (constant S1024x256 .f32 0#32) e1

/-- The gated rows of one head, as the first block of rows writes them. -/
noncomputable def part (h : Fin 4) (q0 q1 q2 q3 : Vec Ideal S1x256x128 .bf16) (k0 k1 : Vec Ideal S1x2048x128 .bf16)
    (e0 e1 : Vec Ideal S2048x256 .bf16) (g : Vec Ideal S1x256x128 .f32) : FVec Ideal S1x256x128 .bf16 :=
  match h with
  | 0 => k0_pay12 (F := Ideal) (k0_pay8 q0 q1 q2 q3 k1) (k0_pay9 q0 q1 q2 q3 k0) (k0_pay10 q0 q1 q2 q3 k0) e0 (constant S1024x256 .f32 0#32) e1 g
  | 1 => k0_pay13 (F := Ideal) (k0_pay8 q0 q1 q2 q3 k1) (k0_pay9 q0 q1 q2 q3 k0) (k0_pay10 q0 q1 q2 q3 k0) e0 (constant S1024x256 .f32 0#32) e1 g
  | 2 => k0_pay14 (F := Ideal) (att q0 q1 q2 q3 k0 k1 e0 e1) g
  | 3 => k0_pay15 (F := Ideal) (att q0 q1 q2 q3 k0 k1 e0 e1) g

/-- One head's queries among the four. -/
def pick (h : Fin 4) (q0 q1 q2 q3 : Vec Ideal S1x256x128 .bf16) : Vec Ideal S1x256x128 .bf16 :=
  match h with
  | 0 => q0
  | 1 => q1
  | 2 => q2
  | 3 => q3

section Rows
variable (q0 q1 q2 q3 : Vec Ideal S1x256x128 .bf16) (k0 k1 : Vec Ideal S1x2048x128 .bf16) (e0 e1 : Vec Ideal S2048x256 .bf16)
  (g : Vec Ideal S1x256x128 .f32)

theorem part_00 : k0_pay12 (F := Ideal) (k0_pay8 q0 q1 q2 q3 k1) (k0_pay9 q0 q1 q2 q3 k0) (k0_pay10 q0 q1 q2 q3 k0) e0
    (constant S1024x256 .f32 0#32) e1 g = part 0 q0 q1 q2 q3 k0 k1 e0 e1 g := rfl
theorem part_01 : k0_pay13 (F := Ideal) (k0_pay8 q0 q1 q2 q3 k1) (k0_pay9 q0 q1 q2 q3 k0) (k0_pay10 q0 q1 q2 q3 k0) e0
    (constant S1024x256 .f32 0#32) e1 g = part 1 q0 q1 q2 q3 k0 k1 e0 e1 g := rfl
theorem part_02 : k0_pay14 (F := Ideal) (k0_pay11 (k0_pay8 q0 q1 q2 q3 k1) (k0_pay9 q0 q1 q2 q3 k0) (k0_pay10 q0 q1 q2 q3 k0) e0
    (constant S1024x256 .f32 0#32) e1) g = part 2 q0 q1 q2 q3 k0 k1 e0 e1 g := rfl
theorem part_03 : k0_pay15 (F := Ideal) (k0_pay11 (k0_pay8 q0 q1 q2 q3 k1) (k0_pay9 q0 q1 q2 q3 k0) (k0_pay10 q0 q1 q2 q3 k0) e0
    (constant S1024x256 .f32 0#32) e1) g = part 3 q0 q1 q2 q3 k0 k1 e0 e1 g := rfl
theorem part_10 : k0_pay19 (F := Ideal) (k0_pay18 (k0_pay16 q0 q1 q2 q3) k0 k1 e0 e1 g) = part 0 q0 q1 q2 q3 k0 k1 e0 e1 g := rfl
theorem part_11 : k0_pay20 (F := Ideal) (k0_pay17 (k0_pay16 q0 q1 q2 q3) k0 k1 e0 e1) g = part 1 q0 q1 q2 q3 k0 k1 e0 e1 g := rfl
theorem part_12 : k0_pay21 (F := Ideal) (k0_pay17 (k0_pay16 q0 q1 q2 q3) k0 k1 e0 e1) g = part 2 q0 q1 q2 q3 k0 k1 e0 e1 g := rfl
theorem part_13 : k0_pay22 (F := Ideal) (k0_pay17 (k0_pay16 q0 q1 q2 q3) k0 k1 e0 e1) g = part 3 q0 q1 q2 q3 k0 k1 e0 e1 g := rfl
theorem part_20 : k0_pay33 (F := Ideal) (k0_pay28 (k0_pay23 q0) q1 q2 q3 k0 e0) (k0_pay30 (k0_pay23 q0) q1 q2 q3 k0 k1 e1)
    (k0_pay31 (k0_pay23 q0) q1 q2 q3 k0 k1) g = part 0 q0 q1 q2 q3 k0 k1 e0 e1 g := rfl
theorem part_21 : k0_pay34 (F := Ideal) (k0_pay28 (k0_pay23 q0) q1 q2 q3 k0 e0) (k0_pay30 (k0_pay23 q0) q1 q2 q3 k0 k1 e1)
    (k0_pay31 (k0_pay23 q0) q1 q2 q3 k0 k1) g = part 1 q0 q1 q2 q3 k0 k1 e0 e1 g := rfl
theorem part_22 : k0_pay35 (F := Ideal) (k0_pay28 (k0_pay23 q0) q1 q2 q3 k0 e0) (k0_pay30 (k0_pay23 q0) q1 q2 q3 k0 k1 e1)
    (k0_pay31 (k0_pay23 q0) q1 q2 q3 k0 k1) g = part 2 q0 q1 q2 q3 k0 k1 e0 e1 g := rfl
theorem part_23 : k0_pay36 (F := Ideal) (k0_pay32 (k0_pay28 (k0_pay23 q0) q1 q2 q3 k0 e0) (k0_pay30 (k0_pay23 q0) q1 q2 q3 k0 k1 e1)
    (k0_pay31 (k0_pay23 q0) q1 q2 q3 k0 k1)) g = part 3 q0 q1 q2 q3 k0 k1 e0 e1 g := rfl
theorem part_30 : k0_pay43 (F := Ideal) (k0_pay39 q0 q1 q2 q3 k1) (k0_pay40 q0 q1 q2 q3 k0) (k0_pay41 q0 q1 q2 q3 k0) e0 e1 g
    = part 0 q0 q1 q2 q3 k0 k1 e0 e1 g := rfl
theorem part_31 : k0_pay1 (F := Ideal) (k0_pay44 (k0_pay39 q0 q1 q2 q3 k1) (k0_pay40 q0 q1 q2 q3 k0) (k0_pay41 q0 q1 q2 q3 k0) e0 e1 g)
    = part 1 q0 q1 q2 q3 k0 k1 e0 e1 g := rfl
theorem part_32 : k0_pay2 (F := Ideal) (k0_pay42 (k0_pay39 q0 q1 q2 q3 k1) (k0_pay40 q0 q1 q2 q3 k0) (k0_pay41 q0 q1 q2 q3 k0) e0 e1) g
    = part 2 q0 q1 q2 q3 k0 k1 e0 e1 g := rfl
theorem part_33 : k0_pay3 (F := Ideal) (k0_pay42 (k0_pay39 q0 q1 q2 q3 k1) (k0_pay40 q0 q1 q2 q3 k0) (k0_pay41 q0 q1 q2 q3 k0) e0 e1) g
    = part 3 q0 q1 q2 q3 k0 k1 e0 e1 g := rfl

theorem part_at (h : Fin 4) (i : Fin 256) (d : Fin 128) : part h q0 q1 q2 q3 k0 k1 e0 e1 g (ix3 0 i d)
    = att q0 q1 q2 q3 k0 k1 e0 e1 (ix2 ⟨h * 256 + i, by omega⟩ d) * (g (ix3 0 i d) * Ideal.logistic (g (ix3 0 i d))) := by
  match h with
  | 0 =>
    show k0_pay12 (F := Ideal) _ _ _ _ _ _ _ _ = _
    unfold att
    pointwise [k0_pay12]
    all_goals blk_ext
  | 1 =>
    show k0_pay13 (F := Ideal) _ _ _ _ _ _ _ _ = _
    unfold att
    pointwise [k0_pay13]
    all_goals blk_ext
  | 2 =>
    show k0_pay14 (F := Ideal) _ _ _ = _
    pointwise [k0_pay14]
    all_goals blk_ext
  | 3 =>
    show k0_pay15 (F := Ideal) _ _ _ = _
    pointwise [k0_pay15]
    all_goals blk_ext

theorem kappa : Named.named (F := Ideal) (φ := .f32) κ "c_ax" 0x3E0293EE#32 = (((Real.sqrt 128)⁻¹ * (Real.log 2)⁻¹ : ℝ) : EReal) :=
  IdealRules.named_const.ideal_named_scalar _ _ _ _ rfl

theorem query_at (h : Fin 4) (i : Fin 256) (a : Fin 128) : k0_pay6 (F := Ideal) q0 q1 q2 q3 (ix2 ⟨h * 256 + i, by omega⟩ a)
    = pick h q0 q1 q2 q3 (ix3 0 i a) * (((Real.sqrt 128)⁻¹ * (Real.log 2)⁻¹ : ℝ) : EReal) := by
  rw [← kappa]
  match h with
  | 0 =>
    pointwise [k0_pay6, pick]
  | 1 =>
    pointwise [k0_pay6, pick]
  | 2 =>
    pointwise [k0_pay6, pick]
    rw [dif_neg (by omega), dif_neg (by omega), dif_pos (by omega)]
    exact congrArg (fun k => q2 (ix3 0 k a) * _) (Fin.ext (by show 512 + (i : ℕ) - 256 - 256 = i; omega))
  | 3 =>
    pointwise [k0_pay6, pick]
    rw [dif_neg (by omega), dif_neg (by omega), dif_neg (by omega)]
    exact congrArg (fun k => q3 (ix3 0 k a) * _) (Fin.ext (by show 768 + (i : ℕ) - 256 - 256 - 256 = i; omega))

theorem second_at (i : Fin 1024) (j : Fin 2048) : k0_pay8 (F := Ideal) q0 q1 q2 q3 k1 (ix2 i j)
    = ∑ d : Fin 128, k0_pay6 q0 q1 q2 q3 (ix2 i d) * k1 (ix3 0 j d) := by
  pointwise [k0_pay8]

theorem first_at (i : Fin 1024) (j : Fin 2048) : k0_pay7 (F := Ideal) q0 q1 q2 q3 k0 (ix2 i j)
    = ∑ d : Fin 128, k0_pay6 q0 q1 q2 q3 (ix2 i d) * k0 (ix3 0 j d) := by
  pointwise [k0_pay7]

theorem max_at (i : Fin 1024) : k0_pay9 (F := Ideal) q0 q1 q2 q3 k0 (ix2 i 0)
    = Finset.univ.fold Max.max ⊥ fun j : Fin 2048 => k0_pay7 q0 q1 q2 q3 k0 (ix2 i j) := by
  rw [← Attn.ofBits_bot]
  pointwise [k0_pay9]

theorem weight_at (i : Fin 1024) (j : Fin 2048) : k0_pay10 (F := Ideal) q0 q1 q2 q3 k0 (ix2 i j)
    = Ideal.exp2 (k0_pay7 q0 q1 q2 q3 k0 (ix2 i j) - k0_pay9 q0 q1 q2 q3 k0 (ix2 i 0)) := by
  pointwise [k0_pay10]
  rfl

theorem merge_at (s : FVec Ideal S1024x2048 .f32) (m0 : FVec Ideal S1024x1 .f32) (p : FVec Ideal S1024x2048 .bf16) (i : Fin 1024) (d : Fin 128) :
    k0_pay11 (F := Ideal) s m0 p e0 (constant S1024x256 .f32 0#32) e1 (ix2 i d)
      = Ideal.div
          (Ideal.exp2 (m0 (ix2 i 0) - max (m0 (ix2 i 0)) (Finset.univ.fold Max.max ⊥ fun j : Fin 2048 => s (ix2 i j)))
              * ∑ j : Fin 2048, p (ix2 i j) * e0 (ix2 j ⟨d, by omega⟩)
            + ∑ j : Fin 2048, Ideal.exp2 (s (ix2 i j) - max (m0 (ix2 i 0)) (Finset.univ.fold Max.max ⊥ fun j : Fin 2048 => s (ix2 i j)))
              * e1 (ix2 j ⟨d, by omega⟩))
          (Ideal.exp2 (m0 (ix2 i 0) - max (m0 (ix2 i 0)) (Finset.univ.fold Max.max ⊥ fun j : Fin 2048 => s (ix2 i j)))
              * ∑ j : Fin 2048, p (ix2 i j) * e0 (ix2 j 128)
            + ∑ j : Fin 2048, Ideal.exp2 (s (ix2 i j) - max (m0 (ix2 i 0)) (Finset.univ.fold Max.max ⊥ fun j : Fin 2048 => s (ix2 i j)))
              * e1 (ix2 j 128)) := by
  rw [← Attn.ofBits_bot]
  pointwise [k0_pay11]
  all_goals rfl

/-- One entry of a block of rows: the softmax attention of the row's scores and the values `v`. -/
theorem att_at (i : Fin 1024) (d : Fin 128) (Q : Fin 128 → EReal) (K : Fin (2048 + 2048) → Fin 128 → EReal) (v : Fin (2048 + 2048) → EReal)
    (hQ : ∀ a, Attn.Re (Q a)) (hK : ∀ j a, Attn.Re (K j a))
    (hq : ∀ a, k0_pay6 (F := Ideal) q0 q1 q2 q3 (ix2 i a) = Q a * (((Real.sqrt 128)⁻¹ * (Real.log 2)⁻¹ : ℝ) : EReal))
    (h0 : ∀ j a, k0 (ix3 0 j a) = K (Fin.castAdd 2048 j) a) (h1 : ∀ j a, k1 (ix3 0 j a) = K (Fin.natAdd 2048 j) a)
    (he0 : ∀ j, e0 (ix2 j ⟨d, by omega⟩) = v (Fin.castAdd 2048 j)) (he1 : ∀ j, e1 (ix2 j ⟨d, by omega⟩) = v (Fin.natAdd 2048 j))
    (ho0 : ∀ j, e0 (ix2 j 128) = 1) (ho1 : ∀ j, e1 (ix2 j 128) = 1) {x : EReal} (hx : Attn.Re x) :
    att q0 q1 q2 q3 k0 k1 e0 e1 (ix2 i d)
      = ∑ j, v j * Ideal.div (Ideal.exp (Ideal.div (∑ a, Q a * K j a) ((Real.sqrt 128 : ℝ) : EReal) - x))
          (0 + ∑ l, Ideal.exp (Ideal.div (∑ a, Q a * K l a) ((Real.sqrt 128 : ℝ) : EReal) - x)) := by
  have hr : Real.sqrt 128 ≠ 0 := (Real.sqrt_pos.2 (by norm_num)).ne'
  have hs : ∀ j, Attn.Re (Ideal.div (∑ a, Q a * K j a) ((Real.sqrt 128 : ℝ) : EReal)) := fun j => Attn.Re.score Q (K j) hQ (hK j) hr
  unfold att
  rw [merge_at]
  simp only [max_at, weight_at, first_at, second_at, hq, h0, h1, he0, he1, ho0, ho1, Attn.scaled_score Q _ hQ (hK _) hr]
  have hm : ∀ f : Fin 2048 → Fin (2048 + 2048), Attn.Re (Finset.univ.fold Max.max ⊥ fun j => Ideal.div (∑ a, Q a * K (f j) a) ((Real.sqrt 128 : ℝ) : EReal) * (((Real.log 2)⁻¹ : ℝ) : EReal)) :=
    fun f => Attn.Re.fold_max _ Finset.univ_nonempty _ fun j _ => (hs _).mul (Attn.Re.coe _)
  exact Attn.attention_row _ hs _ (fun _ => rfl) v (hm _) ((hm _).max (hm _)) hx

end Rows

section Ref
variable (X : FVec Ideal S8x4096x3840 .bf16) (G : FVec Ideal S8x4096x9216 .f32)

theorem ref_score (b : Fin 8) (c : Fin 2) (h : Fin 4) (i j : Fin 4096) : val_main_v12 (F := Ideal) X (ix5 b c h i j)
    = Ideal.div (∑ d : Fin 128, X (ix3 b i ⟨c * 512 + h * 128 + d, by omega⟩) * X (ix3 b j ⟨1024 + c * 128 + d, by omega⟩)) ((Real.sqrt 128 : ℝ) : EReal) := by
  rw [← Attn.sqrt_128]
  simp only [mul_comm (X (ix3 b i _))]
  unfold val_main_v12 val_main_v11 val_main_v10 val_main_v9 val_main_v8 val_main_cst val_main_v4 val_main_v3 val_main_v2 val_main_v1 val_main_v0
  pointwise
  all_goals first | blk_ext | rfl

theorem ref_max (h : ∀ i, Attn.Re (val_main_v12 (F := Ideal) X i)) (i : Cert.AxialRefIdeal.S8x2x4x4096.Idx) :
    Attn.Re (val_main_v15 (F := Ideal) X i) := by
  rw [val_main_v15_apply, val_main_v14_apply, show val_main_cst_1 (F := Ideal) (idx_main_v14 i) = (⊥ : EReal) from Attn.ofBits_bot]
  refine Attn.Re.max_bot (x := val_main_v13 (F := Ideal) X i) ?_
  unfold val_main_v13
  exact Attn.Re.reduce_max _ _ _ (by decide) _ (by decide) h (fun i => Attn.ofBits_bot) i

theorem ref_exp (b : Fin 8) (c : Fin 2) (h : Fin 4) (i j : Fin 4096) : val_main_v19 (F := Ideal) X (ix5 b c h i j)
    = Ideal.exp (val_main_v12 (F := Ideal) X (ix5 b c h i j) - val_main_v15 (F := Ideal) X (ix4 b c h i)) := by
  unfold val_main_v19 val_main_v18 val_main_v17 val_main_v16
  pointwise
  all_goals rfl

theorem ref_soft (b : Fin 8) (c : Fin 2) (h : Fin 4) (i j : Fin 4096) : val_main_v23 (F := Ideal) X (ix5 b c h i j)
    = Ideal.div (val_main_v19 (F := Ideal) X (ix5 b c h i j)) (0 + ∑ l : Fin 4096, val_main_v19 (F := Ideal) X (ix5 b c h i l)) := by
  rw [zero_add]
  unfold val_main_v23 val_main_v22 val_main_v21 val_main_v20 val_main_cst_2
  pointwise
  all_goals rfl

theorem ref_at (b : Fin 8) (i : Fin 4096) (n : Fin 1024) : val_main_v29 (F := Ideal) X G (ix3 b i n)
    = (∑ j : Fin 4096, X (ix3 b j ⟨1280 + (n / 512 * 128 + n % 128), by omega⟩) * val_main_v23 (F := Ideal) X (ix5 b ⟨n / 512, by omega⟩ ⟨n / 128 % 4, by omega⟩ i j))
      * (G (ix3 b i ⟨1024 + n, by omega⟩) * Ideal.logistic (G (ix3 b i ⟨1024 + n, by omega⟩))) := by
  unfold val_main_v29 val_main_v28 val_main_v27 val_main_call0_v5 val_main_call0_v4 val_main_call0_cst_0 val_main_call0_v3 val_main_call0_v2 val_main_call0_cst val_main_call0_v1 val_main_call0_v0 val_main_v26 val_main_v25 val_main_v24 val_main_v7 val_main_v6 val_main_v5 val_main_v0
  pointwise [Ideal.logistic]
  all_goals blk_ext

/-- A block of rows whose operands are read from the arrays is the reference's. -/
theorem block (q0 q1 q2 q3 : Vec Ideal S1x256x128 .bf16) (k0 k1 : Vec Ideal S1x2048x128 .bf16) (e0 e1 : Vec Ideal S2048x256 .bf16)
    (g : Vec Ideal S1x256x128 .f32) (i : Fin 256) (d : Fin 128) (b : Fin 8) (c : Fin 2) (h : Fin 4) (r : Fin 4096)
    (hX : ∀ b r (n : Fin 1280), Attn.Re (X (ix3 b r ⟨n, by omega⟩)))
    (hq : ∀ a : Fin 128, pick h q0 q1 q2 q3 (ix3 0 i a) = X (ix3 b r ⟨c * 512 + h * 128 + a, by omega⟩))
    (h0 : ∀ (j : Fin 2048) (a : Fin 128), k0 (ix3 0 j a) = X (ix3 b ⟨j, by omega⟩ ⟨1024 + c * 128 + a, by omega⟩))
    (h1 : ∀ (j : Fin 2048) (a : Fin 128), k1 (ix3 0 j a) = X (ix3 b ⟨2048 + j, by omega⟩ ⟨1024 + c * 128 + a, by omega⟩))
    (he0 : ∀ j : Fin 2048, e0 (ix2 j ⟨d, by omega⟩) = X (ix3 b ⟨j, by omega⟩ ⟨1280 + c * 128 + d, by omega⟩))
    (he1 : ∀ j : Fin 2048, e1 (ix2 j ⟨d, by omega⟩) = X (ix3 b ⟨2048 + j, by omega⟩ ⟨1280 + c * 128 + d, by omega⟩))
    (ho0 : ∀ j : Fin 2048, e0 (ix2 j 128) = 1) (ho1 : ∀ j : Fin 2048, e1 (ix2 j 128) = 1)
    (hg : g (ix3 0 i d) = G (ix3 b r ⟨1024 + (c * 512 + h * 128 + d), by omega⟩)) :
    part h q0 q1 q2 q3 k0 k1 e0 e1 g (ix3 0 i d) = val_main_v29 (F := Ideal) X G (ix3 b r ⟨c * 512 + h * 128 + d, by omega⟩) := by
  have hr : Real.sqrt 128 ≠ 0 := (Real.sqrt_pos.2 (by norm_num)).ne'
  have hQ : ∀ (b : Fin 8) (c : Fin 2) (h : Fin 4) (r : Fin 4096) (a : Fin 128), Attn.Re (X (ix3 b r ⟨c * 512 + h * 128 + a, by omega⟩)) :=
    fun b c h r a => hX b r ⟨c * 512 + h * 128 + a, by omega⟩
  have hK : ∀ (b : Fin 8) (c : Fin 2) (r : Fin 4096) (a : Fin 128), Attn.Re (X (ix3 b r ⟨1024 + c * 128 + a, by omega⟩)) :=
    fun b c r a => hX b r ⟨1024 + c * 128 + a, by omega⟩
  have hs : ∀ i, Attn.Re (val_main_v12 (F := Ideal) X i) := fun i => by
    rw [show i = ix5 (n0 := 8) (n1 := 2) (n2 := 4) (n3 := 4096) (n4 := 4096) (i 0) (i 1) (i 2) (i 3) (i 4) from eq_ix5 i]
    refine (ref_score X _ _ _ _ _).symm ▸ ?_
    exact Attn.Re.score _ _ (fun _ => hQ _ _ _ _ _) (fun _ => hK _ _ _ _) hr
  rw [part_at, att_at q0 q1 q2 q3 k0 k1 e0 e1 ⟨h * 256 + i, by omega⟩ d (fun a => X (ix3 b r ⟨c * 512 + h * 128 + a, by omega⟩))
      (fun j a => X (ix3 b ⟨j, by omega⟩ ⟨1024 + c * 128 + a, by omega⟩)) (fun j => X (ix3 b ⟨j, by omega⟩ ⟨1280 + c * 128 + d, by omega⟩))
      (fun _ => hQ _ _ _ _ _) (fun _ _ => hK _ _ _ _) (fun a => by rw [query_at, hq]) h0 h1 he0 he1 ho0 ho1 (ref_max X hs (ix4 b c h r)), ref_at, hg]
  have hc : (⟨(c * 512 + h * 128 + d : ℕ) / 512, by omega⟩ : Fin 2) = c := Fin.ext (by show (c * 512 + h * 128 + d : ℕ) / 512 = c; omega)
  have hh : (⟨(c * 512 + h * 128 + d : ℕ) / 128 % 4, by omega⟩ : Fin 4) = h := Fin.ext (by show (c * 512 + h * 128 + d : ℕ) / 128 % 4 = h; omega)
  have hv : (⟨1280 + ((c * 512 + h * 128 + d : ℕ) / 512 * 128 + (c * 512 + h * 128 + d : ℕ) % 128), by omega⟩ : Fin 3840) = ⟨1280 + c * 128 + d, by omega⟩ :=
    Fin.ext (by show 1280 + ((c * 512 + h * 128 + d : ℕ) / 512 * 128 + (c * 512 + h * 128 + d : ℕ) % 128) = 1280 + c * 128 + d; omega)
  simp only [ref_soft, ref_exp, ref_score, hh, hc, hv]
end Ref

/-- The scratch holds the values in its first columns. -/
theorem scratch_value (v : FVec Ideal S1x4096x128 .bf16) (y : S4096x256.Idx) (hy : (y 1 : ℕ) < 128) :
    View.canon (Val := Elt Ideal) (s := S4096x256) (e := .bf16) [⟨Rect.unit ![0, 128] ![4096, 128] inb_S4096x256_S4096x128_0_128, k0_pay5 (F := Ideal)⟩,
      ⟨Rect.unit ![0, 0] ![4096, 128] inb_S4096x256_S4096x128_0_0, k0_pay4 (F := Ideal) v⟩] y = v (ix3 0 (y 0) ⟨y 1, hy⟩) := by
  canon_tiles x h
  · omega
  · pointwise [k0_pay4]
    blk_ext

/-- The column after them holds ones. -/
theorem scratch_one (v : FVec Ideal S1x4096x128 .bf16) (y : S4096x256.Idx) (hy : (y 1 : ℕ) = 128) :
    View.canon (Val := Elt Ideal) (s := S4096x256) (e := .bf16) [⟨Rect.unit ![0, 128] ![4096, 128] inb_S4096x256_S4096x128_0_128, k0_pay5 (F := Ideal)⟩,
      ⟨Rect.unit ![0, 0] ![4096, 128] inb_S4096x256_S4096x128_0_0, k0_pay4 (F := Ideal) v⟩] y = (1 : EReal) := by
  canon_tiles x h
  · pointwise [k0_pay5]
    have e : (x 1).val = 0 := by omega
    rw [e]
    rfl
  · omega

/-- Where each window's block stands at a grid point: the batch, the pair of key heads and the rows. -/
theorem idx : ∀ t : Fin cfg0.N,
    win0_0.index t = ![(grid0.coords t 0).val, (grid0.coords t 2).val, (grid0.coords t 1).val]
    ∧ win0_1.index t = ![(grid0.coords t 0).val, 0, 8 + (grid0.coords t 1).val]
    ∧ win0_2.index t = ![(grid0.coords t 0).val, 0, 10 + (grid0.coords t 1).val]
    ∧ win0_3.index t = ![(grid0.coords t 0).val, (grid0.coords t 2).val, 2 + (grid0.coords t 1).val]
    ∧ win0_4.index t = ![(grid0.coords t 0).val, (grid0.coords t 2).val, (grid0.coords t 1).val] := by
  decide +kernel

/-- The first grid point of the four that share keys and values. -/
theorem head : ∀ t : Fin cfg0.N, ∃ h : 4 * (t.val / 4) < cfg0.N,
    grid0.coords ⟨4 * (t.val / 4), h⟩ 0 = grid0.coords t 0 ∧ grid0.coords ⟨4 * (t.val / 4), h⟩ 1 = grid0.coords t 1 := by
  decide +kernel

/-- The scratch's first columns are the key head's own values of the array. -/
theorem scratch_arr (c : Dev nD) (t : Fin cfg0.N) (y : S4096x256.Idx) (j : Fin 4096) (n : Fin 3840) (d : Fin 128) (hj : (y 0 : ℕ) = j)
    (hd : (y 1 : ℕ) = d) (hn : (n : ℕ) = 1280 + grid0.coords t 1 * 128 + d) :
    View.canon (Val := Elt Ideal) (s := S4096x256) (e := .bf16) [⟨Rect.unit ![0, 128] ![4096, 128] inb_S4096x256_S4096x128_0_128, k0_pay5 (F := Ideal)⟩,
      ⟨Rect.unit ![0, 0] ![4096, 128] inb_S4096x256_S4096x128_0_0, k0_pay4 (F := Ideal) (iblk m c 2 t)⟩] y
      = m ((c.tc : Thread nD τ).loc main_arg0) (ix3 (grid0.coords t 0) j n) := by
  refine (scratch_value _ _ (by omega)).trans ?_
  blk_point [iblk, V, idx t]

end Axial
-- ==== Proof.Axial.lean ====
module

public import proofs.«01_k».proof.Proof.AxialRows
public import proofs.«01_k».proof.Proof.Gen.AxialIdeal.Value
public import proofs.«01_k».proof.Proof.Gen.AxialRefIdeal.Run
public import proofs.«01_k».proof.Proof.Gen.AxialRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384
set_option maxHeartbeats 4000000

namespace Axial
open Cert.AxialIdeal Cert.AxialIdeal.Gen Idealize.ShloMosaic Idealize.ShloMosaic.TcCoe Idealize.SL.Sem
open Cert.AxialRefIdeal.Read

variable (m : (ℓ : Loc nD τ sig) → Buf (Elt Ideal) ℓ)

/-- The query block, at its place in the array. -/
theorem queries (c : Dev nD) (t : Fin cfg0.N) (y : S1x1024x512.Idx) (r : Fin 4096) (n : Fin 3840)
    (hr : (r : ℕ) = grid0.coords t 2 * 1024 + (y 1 : ℕ)) (hn : (n : ℕ) = grid0.coords t 1 * 512 + (y 2 : ℕ)) :
    X0_0 m c t y = m ((c.tc : Thread nD τ).loc main_arg0) (ix3 (grid0.coords t 0) r n) := by
  unfold X0_0 Pipeline.Window.fill
  rw [dif_pos (moved0_0 t y)]
  blk_point [iblk, V, idx t]

/-- What the scratch holds where it is built. -/
theorem built (c : Dev nD) (t : Fin cfg0.N) (h0 : t.val % 4 = 0) : (outsAt0 (F := Ideal) m c t.val t.isLt).2
    = View.canon (Val := Elt Ideal) (s := S4096x256) (e := .bf16) [⟨Rect.unit ![0, 128] ![4096, 128] inb_S4096x256_S4096x128_0_128, k0_pay5 (F := Ideal)⟩,
      ⟨Rect.unit ![0, 0] ![4096, 128] inb_S4096x256_S4096x128_0_0, k0_pay4 (F := Ideal) (iblk m c 2 t)⟩] := by
  rw [outsAt0_A m c t h0]
  funext y
  dsimp only
  frame_open
  frame_out

/-- What the scratch holds at every point: what it was given at the first point of the four. -/
theorem held (c : Dev nD) (t : Fin cfg0.N) : (outsAt0 (F := Ideal) m c t.val t.isLt).2
    = View.canon (Val := Elt Ideal) (s := S4096x256) (e := .bf16) [⟨Rect.unit ![0, 128] ![4096, 128] inb_S4096x256_S4096x128_0_128, k0_pay5 (F := Ideal)⟩,
      ⟨Rect.unit ![0, 0] ![4096, 128] inb_S4096x256_S4096x128_0_0, k0_pay4 (F := Ideal) (iblk m c 2 ⟨4 * (t.val / 4), Pipeline.run_start_lt t⟩)⟩] := by
  refine Pipeline.eq_of_write_hold (fun n h => (outsAt0 (F := Ideal) m c n h).2) 4
    (fun t => View.canon (Val := Elt Ideal) (s := S4096x256) (e := .bf16) [⟨Rect.unit ![0, 128] ![4096, 128] inb_S4096x256_S4096x128_0_128, k0_pay5 (F := Ideal)⟩,
      ⟨Rect.unit ![0, 0] ![4096, 128] inb_S4096x256_S4096x128_0_0, k0_pay4 (F := Ideal) (iblk m c 2 t)⟩]) (built m c) (fun t ht => ?_) t
  rw [outsAt0_B m c t ht]
  rfl

theorem held_arr (c : Dev nD) (t : Fin cfg0.N) (ht : ¬t.val % 4 = 0) (y : S4096x256.Idx) (j : Fin 4096) (n : Fin 3840) (d : Fin 128) (hj : (y 0 : ℕ) = j)
    (hd : (y 1 : ℕ) = d) (hn : (n : ℕ) = 1280 + grid0.coords t 1 * 128 + d) :
    (outsAt0 (F := Ideal) m c (t.val - 1) (Nat.lt_of_le_of_lt (Nat.sub_le _ _) t.isLt)).2 y
      = m ((c.tc : Thread nD τ).loc main_arg0) (ix3 (grid0.coords t 0) j n) := by
  obtain ⟨h, e0, e1⟩ := head t
  have e : (⟨4 * ((t.val - 1) / 4), Pipeline.run_start_lt ⟨t.val - 1, Nat.lt_of_le_of_lt (Nat.sub_le _ _) t.isLt⟩⟩ : Fin cfg0.N) = ⟨4 * (t.val / 4), h⟩ :=
    Fin.ext (by show 4 * ((t.val - 1) / 4) = 4 * (t.val / 4); omega)
  rw [held m c ⟨t.val - 1, Nat.lt_of_le_of_lt (Nat.sub_le _ _) t.isLt⟩, e, ← e0]
  exact scratch_arr m c _ y j n d hj hd (by rw [hn, e1])

theorem held_one (c : Dev nD) (t : Fin cfg0.N) (y : S4096x256.Idx) (hy : (y 1 : ℕ) = 128) :
    (outsAt0 (F := Ideal) m c (t.val - 1) (Nat.lt_of_le_of_lt (Nat.sub_le _ _) t.isLt)).2 y = (1 : EReal) := by
  rw [held m c ⟨t.val - 1, Nat.lt_of_le_of_lt (Nat.sub_le _ _) t.isLt⟩]
  exact scratch_one _ y hy

/-- The kernel's array holds the reference's gated attention. -/
theorem value (c : Dev nD) (hX : ∀ b r (n : Fin 1280), Attn.Re (m ((c.tc : Thread nD τ).loc main_arg0) (ix3 b r ⟨n, by omega⟩))) :
    (dats m 0 c).arrAt 4 cfg0.N = val_main_v29 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  have hr : (grid0.coords t 2 : ℕ) < 4 := (grid0.coords t 2).isLt
  by_cases ht : t.val % 4 = 0
  · rw [outsAt0_A m c t ht]
    frame_open
    simp only [View.readCov_eq_canon']
    frame_out
    canon_tiles x h
    all_goals first
      | rw [part_00] | rw [part_01] | rw [part_02] | rw [part_03] | rw [part_10] | rw [part_11] | rw [part_12] | rw [part_13]
      | rw [part_20] | rw [part_21] | rw [part_22] | rw [part_23] | rw [part_30] | rw [part_31] | rw [part_32] | rw [part_33]
    all_goals rw [show x = ix3 (n0 := 1) (n1 := 256) (n2 := 128) 0 (x 1) (x 2) from (eq_ix3 x).trans (by rw [Fin.fin_one_eq_zero (x 0)])]
    all_goals refine (block (m ((c.tc : Thread nD τ).loc main_arg0)) (m ((c.tc : Thread nD τ).loc main_arg1)) _ _ _ _ _ _ _ _ _ (x 1) (x 2)
        (grid0.coords t 0) (grid0.coords t 1) _ ⟨grid0.coords t 2 * 1024 + y 1, by omega⟩ hX ?_ ?_ ?_ ?_ ?_ ?_ ?_ ?_).trans (congrArg _ ?_)
    all_goals try (intro j; exact scratch_one _ _ rfl)
    all_goals first
      | (intro j; refine scratch_arr m c t _ _ _ (x 2) ?_ ?_ rfl <;> simp [LoadRect.idx_apply])
      | (intro a; refine queries m c t _ _ _ ?_ ?_ <;> simp [LoadRect.idx_apply] <;> omega)
      | (intro j a; blk_point [iblk, V, idx t])
      | blk_point [iblk, V, idx t]
  · rw [outsAt0_B m c t ht]
    frame_open
    simp only [View.readCov_eq_canon', read_unread_whole]
    frame_out
    simp only [View.readCov_eq_canon', read_unread_whole]
    canon_tiles x h
    all_goals first
      | rw [part_00] | rw [part_01] | rw [part_02] | rw [part_03] | rw [part_10] | rw [part_11] | rw [part_12] | rw [part_13]
      | rw [part_20] | rw [part_21] | rw [part_22] | rw [part_23] | rw [part_30] | rw [part_31] | rw [part_32] | rw [part_33]
    all_goals rw [show x = ix3 (n0 := 1) (n1 := 256) (n2 := 128) 0 (x 1) (x 2) from (eq_ix3 x).trans (by rw [Fin.fin_one_eq_zero (x 0)])]
    all_goals refine (block (m ((c.tc : Thread nD τ).loc main_arg0)) (m ((c.tc : Thread nD τ).loc main_arg1)) _ _ _ _ _ _ _ _ _ (x 1) (x 2)
        (grid0.coords t 0) (grid0.coords t 1) _ ⟨grid0.coords t 2 * 1024 + y 1, by omega⟩ hX ?_ ?_ ?_ ?_ ?_ ?_ ?_ ?_).trans (congrArg _ ?_)
    all_goals try (intro j; exact held_one m c t _ rfl)
    all_goals first
      | (intro j; refine held_arr m c t ht _ _ _ (x 2) ?_ ?_ rfl <;> simp [LoadRect.idx_apply])
      | (intro a; refine queries m c t _ _ _ ?_ ?_ <;> simp [LoadRect.idx_apply] <;> omega)
      | (intro j a; blk_point [iblk, V, idx t])
      | blk_point [iblk, V, idx t]

end Axial
-- ==== Proof.AxialClaim.lean ====
module

public import proofs.«01_k».proof.Defs
public import proofs.«01_k».proof.Proof.Axial
public import proofs.«01_k».proof.Proof.Gen.Axial.Frame
public import proofs.«01_k».proof.Proof.Gen.AxialIdeal.Frame
public import proofs.«01_k».proof.Proof.Gen.Pre_finite_axial
public import Idealize.ShloMosaic.Lib.Pointwise
public import Idealize.ShloMosaic.Lib.Claim

@[expose] public section

set_option maxRecDepth 16384

namespace Axial
open Idealize.ShloMosaic Idealize.ShloMosaic.TcCoe Idealize.SL.Sem

/-- The reference runs to its end, changes no argument and leaves no semaphore raised. -/
theorem frame_of_reference (m : (ℓ : Loc Cert.AxialRefIdeal.nD Cert.AxialRefIdeal.τ Cert.AxialRefIdeal.sig) → Buf (Elt Ideal) ℓ)
    (g : Dev Cert.AxialRefIdeal.nD → PrngReg) :
    θ_run (Cert.AxialRefIdeal.defs (F := Ideal)) (onTc (τ := Cert.AxialRefIdeal.τ) (Cert.AxialRefIdeal.main (F := Ideal))) ⟨m, fun _ => 0, g⟩ (fun r => (∀ c : Dev Cert.AxialRefIdeal.nD,
      r.2.mem ((c.tc : Thread Cert.AxialRefIdeal.nD Cert.AxialRefIdeal.τ).loc Cert.AxialRefIdeal.main_arg0) = m ((c.tc : Thread Cert.AxialRefIdeal.nD Cert.AxialRefIdeal.τ).loc Cert.AxialRefIdeal.main_arg0)
      ∧ r.2.mem ((c.tc : Thread Cert.AxialRefIdeal.nD Cert.AxialRefIdeal.τ).loc Cert.AxialRefIdeal.main_arg1) = m ((c.tc : Thread Cert.AxialRefIdeal.nD Cert.AxialRefIdeal.τ).loc Cert.AxialRefIdeal.main_arg1))
      ∧ r.2.sem = fun _ => 0) :=
  (θ_run Cert.AxialRefIdeal.defs _ _).mono (fun r h => ⟨fun c => ⟨(h c).2.1, (h c).2.2⟩, Idealize.ShloMosaic.sem_eq_zero_of_no_sems (by decide) r.2⟩)
    (Cert.AxialRefIdeal.Value.run (F := Ideal) m g)

/-- The kernel's frame, at machine words. -/
theorem frame : Cert.quiescent_Axial := fun m g _ => Cert.Axial.Gen.frame m g

/-- The kernel's frame, at extended reals. -/
theorem frame_ideal : Cert.quiescent_AxialIdeal := fun m g _ => Cert.AxialIdeal.Gen.frame m g

/-- The reference's frame. -/
theorem frame_ref : Cert.quiescent_AxialRefIdeal := fun m g _ => frame_of_reference m g

/-- The kernel's frame on finite arguments. -/
theorem frame_ideal_finite : Cert.quiescent_AxialIdeal_pre_finite_axial := fun m g _ => Cert.AxialIdeal.Gen.frame m g

/-- The reference's frame on finite arguments. -/
theorem frame_ref_finite : Cert.quiescent_AxialRefIdeal_pre_finite_axial := fun m g _ => frame_of_reference m g

/-- The named constant at machine words is the word the program holds. -/
theorem preserves : Cert.preserves_Axial_AxialIdeal :=
  IdealRules.named_const.statement Cert.AxialIdeal.κ "c_ax" .f32 0x3E0293EE#32 _ rfl

/-- A finite entry of the queries and keys is a real number. -/
theorem finite_re (X : FVec Ideal Cert.Pre_finite_axial.S8x4096x3840 .bf16) (G : FVec Ideal Cert.Pre_finite_axial.S8x4096x9216 .f32)
    (h : Cert.Pre_finite_axial.fn (F := Ideal) X G = fun _ => 1#1) (b : Fin 8) (r : Fin 4096) (n : Fin 1280) :
    Attn.Re (X (ix3 b r ⟨n, by omega⟩)) := by
  have e := congrFun h (ix3 b r n)
  have e' : Ideal.cmp .olt (Max.max (X (ix3 b r ⟨n, by omega⟩)) (-X (ix3 b r ⟨n, by omega⟩))) ⊤ = 1#1 := by
    rw [← Attn.ofBits_top, ← e]
    unfold Cert.Pre_finite_axial.fn
    pointwise
    rfl
  exact Attn.Re.of_cmp e'

/-- The kernel and the reference end with equal results. -/
theorem algebraic : Cert.algebraic_AxialIdeal_AxialRefIdeal_pre_finite_axial := by
  pair_intro
  · run_from Cert.AxialIdeal.Value.run_blocks m g
  · run_from Cert.AxialRefIdeal.Value.run m' g'
    rw [Cert.AxialRefIdeal.Read.val_main_v29_eq, (hagree c).1, (hagree c).2]
    exact (value m c (finite_re _ _ (hpre c))).symm

end Axial
-- ==== Proof.Mla.lean ====
module

public import proofs.«01_k».proof.Proof.Softmax
public import proofs.«01_k».proof.Proof.Gen.MlaIdeal.Value
public import proofs.«01_k».proof.Proof.Gen.MlaRefIdeal.Run
public import proofs.«01_k».proof.Proof.Gen.MlaRefIdeal.Read
public import Idealize.ShloMosaic.Lib.Pipeline.ValueKit
public import Idealize.ShloMosaic.Lib.Pipeline.ReadBack
public import Idealize.ShloMosaic.Lib.Pointwise

@[expose] public section

set_option maxRecDepth 16384

namespace Mla
open Cert.MlaIdeal Cert.MlaIdeal.Gen Idealize.ShloMosaic Idealize.ShloMosaic.TcCoe Idealize.SL.Sem
open Cert.MlaRefIdeal.Read

variable (m : (ℓ : Loc nD τ sig) → Buf (Elt Ideal) ℓ)

/-- One block of query rows, as the first of the four stores writes it. -/
noncomputable def row (q : Vec Ideal S1x1024x256 .bf16) (k0 k1 : Vec Ideal S1x2048x256 .bf16) (e0 e1 : Vec Ideal S2048x256 .bf16)
    (g : Vec Ideal S1x1024x128 .f32) : FVec Ideal S1x1024x128 .bf16 :=
  k0_pay9 (F := Ideal) (k0_pay6 q k1) (k0_pay7 q k0) (k0_pay8 q k0) e0 e1 g

section Rows
variable (q : Vec Ideal S1x1024x256 .bf16) (k0 k1 : Vec Ideal S1x2048x256 .bf16) (e0 e1 : Vec Ideal S2048x256 .bf16)
  (g : Vec Ideal S1x1024x128 .f32)

theorem row_first : k0_pay9 (F := Ideal) (k0_pay6 q k1) (k0_pay7 q k0) (k0_pay8 q k0) e0 e1 g = row q k0 k1 e0 e1 g := rfl

theorem row_second : k0_pay12 (F := Ideal) (k0_pay10 q) (k0_pay11 k0) (constant S1024x2048 FTy.f32 0#32) k1 e0 e1 g
    = row q k0 k1 e0 e1 g := rfl

theorem row_third : k0_pay14 (F := Ideal) (k0_pay13 q k0 k1 e0 e1) g = row q k0 k1 e0 e1 g := rfl

theorem row_fourth : k0_pay1 (F := Ideal) (k0_pay18 q k0) (k0_pay19 q k0 e0) (k0_pay20 q k0 k1) (k0_pay21 q k0 k1) e1
    (constant S1024x256 FTy.f32 0#32) g = row q k0 k1 e0 e1 g := rfl

theorem kappa : Named.named (F := Ideal) (φ := .f32) κ "c_mla" 0x3DD53B95#32 = (((Real.sqrt 192)⁻¹ * (Real.log 2)⁻¹ : ℝ) : EReal) :=
  IdealRules.named_const.ideal_named_scalar _ _ _ _ rfl

theorem second_at (i : Fin 1024) (j : Fin 2048) : k0_pay6 (F := Ideal) q k1 (ix2 i j)
    = ∑ d : Fin 256, q (ix3 0 i d) * (((Real.sqrt 192)⁻¹ * (Real.log 2)⁻¹ : ℝ) : EReal) * k1 (ix3 0 j d) := by
  rw [← kappa]
  pointwise [k0_pay6, k0_pay4]

theorem first_at (i : Fin 1024) (j : Fin 2048) : k0_pay5 (F := Ideal) q k0 (ix2 i j)
    = ∑ d : Fin 256, q (ix3 0 i d) * (((Real.sqrt 192)⁻¹ * (Real.log 2)⁻¹ : ℝ) : EReal) * k0 (ix3 0 j d) := by
  rw [← kappa]
  pointwise [k0_pay5, k0_pay4]

theorem max_at (i : Fin 1024) : k0_pay7 (F := Ideal) q k0 (ix2 i 0)
    = Finset.univ.fold Max.max ⊥ fun j : Fin 2048 => k0_pay5 q k0 (ix2 i j) := by
  rw [← Attn.ofBits_bot]
  pointwise [k0_pay7]

theorem weight_at (i : Fin 1024) (j : Fin 2048) : k0_pay8 (F := Ideal) q k0 (ix2 i j)
    = Ideal.exp2 (k0_pay5 q k0 (ix2 i j) - k0_pay7 q k0 (ix2 i 0)) := by
  pointwise [k0_pay8]
  rfl

theorem merge_at (s : FVec Ideal S1024x2048 .f32) (m0 : FVec Ideal S1024x1 .f32) (p : FVec Ideal S1024x2048 .f32) (i : Fin 1024) (d : Fin 128) :
    k0_pay9 (F := Ideal) s m0 p e0 e1 g (ix3 0 i d)
      = Ideal.div
          (Ideal.exp2 (m0 (ix2 i 0) - max (m0 (ix2 i 0)) (Finset.univ.fold Max.max ⊥ fun j : Fin 2048 => s (ix2 i j)))
              * ∑ j : Fin 2048, p (ix2 i j) * e0 (ix2 j ⟨d, by omega⟩)
            + ∑ j : Fin 2048, Ideal.exp2 (s (ix2 i j) - max (m0 (ix2 i 0)) (Finset.univ.fold Max.max ⊥ fun j : Fin 2048 => s (ix2 i j)))
              * e1 (ix2 j ⟨d, by omega⟩))
          (Ideal.exp2 (m0 (ix2 i 0) - max (m0 (ix2 i 0)) (Finset.univ.fold Max.max ⊥ fun j : Fin 2048 => s (ix2 i j)))
              * ∑ j : Fin 2048, p (ix2 i j) * e0 (ix2 j 128)
            + ∑ j : Fin 2048, Ideal.exp2 (s (ix2 i j) - max (m0 (ix2 i 0)) (Finset.univ.fold Max.max ⊥ fun j : Fin 2048 => s (ix2 i j)))
              * e1 (ix2 j 128))
        * (g (ix3 0 i d) * Ideal.logistic (g (ix3 0 i d))) := by
  rw [← Attn.ofBits_bot]
  pointwise [k0_pay9]
  all_goals rfl

/-- One entry of a block of rows: the softmax attention of the row's scores `s` and the values `v`, times the gate. -/
theorem row_at (i : Fin 1024) (d : Fin 128) (Q : Fin 256 → EReal) (K : Fin (2048 + 2048) → Fin 256 → EReal) (v : Fin (2048 + 2048) → EReal)
    (hQ : ∀ a, Attn.Re (Q a)) (hK : ∀ j a, Attn.Re (K j a))
    (hq : ∀ a, q (ix3 0 i a) = Q a) (h0 : ∀ j a, k0 (ix3 0 j a) = K (Fin.castAdd 2048 j) a) (h1 : ∀ j a, k1 (ix3 0 j a) = K (Fin.natAdd 2048 j) a)
    (he0 : ∀ j, e0 (ix2 j ⟨d, by omega⟩) = v (Fin.castAdd 2048 j)) (he1 : ∀ j, e1 (ix2 j ⟨d, by omega⟩) = v (Fin.natAdd 2048 j))
    (ho0 : ∀ j, e0 (ix2 j 128) = 1) (ho1 : ∀ j, e1 (ix2 j 128) = 1) {x : EReal} (hx : Attn.Re x) :
    row q k0 k1 e0 e1 g (ix3 0 i d)
      = (∑ j, v j * Ideal.div (Ideal.exp (Ideal.div (∑ a, Q a * K j a) ((Real.sqrt 192 : ℝ) : EReal) - x))
          (0 + ∑ l, Ideal.exp (Ideal.div (∑ a, Q a * K l a) ((Real.sqrt 192 : ℝ) : EReal) - x)))
        * (g (ix3 0 i d) * Ideal.logistic (g (ix3 0 i d))) := by
  have hr : Real.sqrt 192 ≠ 0 := (Real.sqrt_pos.2 (by norm_num)).ne'
  have hs : ∀ j, Attn.Re (Ideal.div (∑ a, Q a * K j a) ((Real.sqrt 192 : ℝ) : EReal)) := fun j => Attn.Re.score Q (K j) hQ (hK j) hr
  unfold row
  rw [merge_at]
  simp only [max_at, weight_at, first_at, second_at, hq, h0, h1, he0, he1, ho0, ho1, Attn.scaled_score Q _ hQ (hK _) hr]
  have hm : ∀ f : Fin 2048 → Fin (2048 + 2048), Attn.Re (Finset.univ.fold Max.max ⊥ fun j => Ideal.div (∑ a, Q a * K (f j) a) ((Real.sqrt 192 : ℝ) : EReal) * (((Real.log 2)⁻¹ : ℝ) : EReal)) :=
    fun f => Attn.Re.fold_max _ Finset.univ_nonempty _ fun j _ => (hs _).mul (Attn.Re.coe _)
  exact congrArg (· * _) (Attn.attention_row _ hs _ (fun _ => rfl) v (hm _) ((hm _).max (hm _)) hx)

end Rows

section Ref
variable (Q K : FVec Ideal S8x4096x2048 .bf16) (W : FVec Ideal S8x4096x1024 .bf16) (G : FVec Ideal S8x4096x9216 .f32)

theorem ref_score (b : Fin 8) (h : Fin 8) (i j : Fin 4096) : val_main_v10 (F := Ideal) Q K (ix4 b h i j)
    = Ideal.div (∑ d : Fin 256, Q (ix3 b i ⟨h * 256 + d, by omega⟩) * K (ix3 b j ⟨h * 256 + d, by omega⟩)) ((Real.sqrt 192 : ℝ) : EReal) := by
  rw [← Attn.sqrt_192]
  unfold val_main_v10 val_main_v9 val_main_v8 val_main_v7 val_main_cst val_main_v3 val_main_v2 val_main_v1 val_main_v0
  pointwise
  all_goals rfl

theorem ref_max (h : ∀ i, Attn.Re (val_main_v10 (F := Ideal) Q K i)) (i : Cert.MlaRefIdeal.S8x8x4096.Idx) :
    Attn.Re (val_main_v13 (F := Ideal) Q K i) := by
  rw [val_main_v13_apply, val_main_v12_apply, show val_main_cst_1 (F := Ideal) (idx_main_v12 i) = (⊥ : EReal) from Attn.ofBits_bot]
  refine Attn.Re.max_bot (x := val_main_v11 (F := Ideal) Q K i) ?_
  unfold val_main_v11
  exact Attn.Re.reduce_max _ _ _ (by decide) _ (by decide) h (fun i => Attn.ofBits_bot) i

theorem ref_exp (b : Fin 8) (h : Fin 8) (i j : Fin 4096) : val_main_v17 (F := Ideal) Q K (ix4 b h i j)
    = Ideal.exp (val_main_v10 (F := Ideal) Q K (ix4 b h i j) - val_main_v13 (F := Ideal) Q K (ix3 b h i)) := by
  unfold val_main_v17 val_main_v16 val_main_v15 val_main_v14
  pointwise
  all_goals rfl

theorem ref_soft (b : Fin 8) (h : Fin 8) (i j : Fin 4096) : val_main_v21 (F := Ideal) Q K (ix4 b h i j)
    = Ideal.div (val_main_v17 (F := Ideal) Q K (ix4 b h i j)) (0 + ∑ l : Fin 4096, val_main_v17 (F := Ideal) Q K (ix4 b h i l)) := by
  rw [zero_add]
  unfold val_main_v21 val_main_v20 val_main_v19 val_main_v18 val_main_cst_2
  pointwise
  all_goals rfl

theorem ref_at (b : Fin 8) (i : Fin 4096) (c : Fin 1024) : val_main_v27 (F := Ideal) Q K W G (ix3 b i c)
    = (∑ j : Fin 4096, W (ix3 b j c) * val_main_v21 (F := Ideal) Q K (ix4 b ⟨c / 128, by omega⟩ i j))
      * (G (ix3 b i ⟨c, by omega⟩) * Ideal.logistic (G (ix3 b i ⟨c, by omega⟩))) := by
  unfold val_main_v27 val_main_v26 val_main_v25 val_main_call0_v5 val_main_call0_v4 val_main_call0_cst_0 val_main_call0_v3 val_main_call0_v2 val_main_call0_cst val_main_call0_v1 val_main_call0_v0 val_main_v24 val_main_v23 val_main_v22 val_main_v6 val_main_v5 val_main_v4
  pointwise [Ideal.logistic]
  all_goals rfl

/-- A block of rows whose operands are read from the arrays is the reference's. -/
theorem block (q : Vec Ideal S1x1024x256 .bf16) (k0 k1 : Vec Ideal S1x2048x256 .bf16) (e0 e1 : Vec Ideal S2048x256 .bf16)
    (g : Vec Ideal S1x1024x128 .f32) (i : Fin 1024) (d : Fin 128) (b h : Fin 8) (r : Fin 4096)
    (hQ : ∀ i, Attn.Re (Q i)) (hK : ∀ i, Attn.Re (K i))
    (hq : ∀ a : Fin 256, q (ix3 0 i a) = Q (ix3 b r ⟨h * 256 + a, by omega⟩))
    (h0 : ∀ (j : Fin 2048) (a : Fin 256), k0 (ix3 0 j a) = K (ix3 b ⟨j, by omega⟩ ⟨h * 256 + a, by omega⟩))
    (h1 : ∀ (j : Fin 2048) (a : Fin 256), k1 (ix3 0 j a) = K (ix3 b ⟨2048 + j, by omega⟩ ⟨h * 256 + a, by omega⟩))
    (he0 : ∀ j : Fin 2048, e0 (ix2 j ⟨d, by omega⟩) = W (ix3 b ⟨j, by omega⟩ ⟨h * 128 + d, by omega⟩))
    (he1 : ∀ j : Fin 2048, e1 (ix2 j ⟨d, by omega⟩) = W (ix3 b ⟨2048 + j, by omega⟩ ⟨h * 128 + d, by omega⟩))
    (ho0 : ∀ j : Fin 2048, e0 (ix2 j 128) = 1) (ho1 : ∀ j : Fin 2048, e1 (ix2 j 128) = 1)
    (hg : g (ix3 0 i d) = G (ix3 b r ⟨h * 128 + d, by omega⟩)) :
    row q k0 k1 e0 e1 g (ix3 0 i d) = val_main_v27 (F := Ideal) Q K W G (ix3 b r ⟨h * 128 + d, by omega⟩) := by
  have hr : Real.sqrt 192 ≠ 0 := (Real.sqrt_pos.2 (by norm_num)).ne'
  have hs : ∀ i, Attn.Re (val_main_v10 (F := Ideal) Q K i) := fun i => by
    rw [show i = ix4 (n0 := 8) (n1 := 8) (n2 := 4096) (n3 := 4096) (i 0) (i 1) (i 2) (i 3) from eq_ix4 i]
    refine (ref_score Q K _ _ _ _).symm ▸ ?_
    exact Attn.Re.score _ _ (fun _ => hQ _) (fun _ => hK _) hr
  rw [row_at q k0 k1 e0 e1 g i d (fun a => Q (ix3 b r ⟨h * 256 + a, by omega⟩))
      (fun j a => K (ix3 b ⟨j, by omega⟩ ⟨h * 256 + a, by omega⟩)) (fun j => W (ix3 b ⟨j, by omega⟩ ⟨h * 128 + d, by omega⟩))
      (fun _ => hQ _) (fun _ _ => hK _) hq h0 h1 he0 he1 ho0 ho1 (ref_max Q K hs (ix3 b h r)), ref_at, hg]
  have hh : (⟨(h * 128 + d : ℕ) / 128, by omega⟩ : Fin 8) = h := Fin.ext (by show (h * 128 + d : ℕ) / 128 = h; omega)
  simp only [ref_soft, ref_exp, ref_score, hh]
end Ref

/-- The scratch holds the values in its first columns. -/
theorem scratch_value (v : FVec Ideal S1x4096x128 .bf16) (y : S4096x256.Idx) (hy : (y 1 : ℕ) < 128) :
    View.canon (Val := Elt Ideal) (s := S4096x256) (e := .bf16) [⟨Rect.unit ![0, 128] ![4096, 128] inb_S4096x256_S4096x128_0_128, k0_pay3 (F := Ideal)⟩,
      ⟨Rect.unit ![0, 0] ![4096, 128] inb_S4096x256_S4096x128_0_0, k0_pay2 (F := Ideal) v⟩] y = v (ix3 0 (y 0) ⟨y 1, hy⟩) := by
  canon_tiles x h
  · omega
  · pointwise [k0_pay2]
    blk_ext

/-- The column after them holds ones. -/
theorem scratch_one (v : FVec Ideal S1x4096x128 .bf16) (y : S4096x256.Idx) (hy : (y 1 : ℕ) = 128) :
    View.canon (Val := Elt Ideal) (s := S4096x256) (e := .bf16) [⟨Rect.unit ![0, 128] ![4096, 128] inb_S4096x256_S4096x128_0_128, k0_pay3 (F := Ideal)⟩,
      ⟨Rect.unit ![0, 0] ![4096, 128] inb_S4096x256_S4096x128_0_0, k0_pay2 (F := Ideal) v⟩] y = (1 : EReal) := by
  canon_tiles x h
  · pointwise [k0_pay3]
    have e : (x 1).val = 0 := by omega
    rw [e]
    rfl
  · omega

/-- Where each window's block stands at a grid point: the batch and the head. -/
theorem idx : ∀ t : Fin cfg0.N,
    win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val] := by
  decide +kernel

/-- The scratch's first columns are the head's own values of the array. -/
theorem scratch_arr (c : Dev nD) (t : Fin cfg0.N) (y : S4096x256.Idx) (j : Fin 4096) (n : Fin 1024) (d : Fin 128) (hj : (y 0 : ℕ) = j)
    (hd : (y 1 : ℕ) = d) (hn : (n : ℕ) = grid0.coords t 1 * 128 + d) :
    View.canon (Val := Elt Ideal) (s := S4096x256) (e := .bf16) [⟨Rect.unit ![0, 128] ![4096, 128] inb_S4096x256_S4096x128_0_128, k0_pay3 (F := Ideal)⟩,
      ⟨Rect.unit ![0, 0] ![4096, 128] inb_S4096x256_S4096x128_0_0, k0_pay2 (F := Ideal) (iblk m c 2 t)⟩] y
      = m ((c.tc : Thread nD τ).loc main_arg2) (ix3 (grid0.coords t 0) j n) := by
  refine (scratch_value _ _ (by omega)).trans ?_
  blk_point [iblk, V, idx t]

/-- The kernel's array holds the reference's gated attention. -/
theorem value (c : Dev nD) (hQ : ∀ i, Attn.Re (m ((c.tc : Thread nD τ).loc main_arg0) i)) (hK : ∀ i, Attn.Re (m ((c.tc : Thread nD τ).loc main_arg1) i)) :
    (dats m 0 c).arrAt 4 cfg0.N = val_main_v27 (F := Ideal) (m ((c.tc : Thread nD τ).loc main_arg0))
      (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  unfold outsAt0
  frame_open
  simp only [View.readCov_eq_canon']
  frame_out
  canon_tiles x h
  all_goals first | rw [row_first] | rw [row_second] | rw [row_third] | rw [row_fourth]
  all_goals rw [show x = ix3 (n0 := 1) (n1 := 1024) (n2 := 128) 0 (x 1) (x 2) from (eq_ix3 x).trans (by rw [Fin.fin_one_eq_zero (x 0)])]
  all_goals refine (block (m ((c.tc : Thread nD τ).loc main_arg0)) (m ((c.tc : Thread nD τ).loc main_arg1))
      (m ((c.tc : Thread nD τ).loc main_arg2)) (m ((c.tc : Thread nD τ).loc main_arg3)) _ _ _ _ _ _ (x 1) (x 2)
      (grid0.coords t 0) (grid0.coords t 1) ⟨y 1, by omega⟩ hQ hK ?_ ?_ ?_ ?_ ?_ ?_ ?_ ?_).trans (congrArg _ ?_)
  all_goals try (intro j; exact scratch_one _ _ rfl)
  all_goals first
    | (intro j; refine scratch_arr m c t _ _ _ (x 2) ?_ ?_ rfl <;> simp [LoadRect.idx_apply])
    | (intro j a; blk_point [iblk, V, idx t])
    | (intro a; blk_point [iblk, V, idx t])
    | blk_point [iblk, V, idx t]

end Mla
-- ==== Proof.MlaClaim.lean ====
module

public import proofs.«01_k».proof.Defs
public import proofs.«01_k».proof.Proof.Mla
public import proofs.«01_k».proof.Proof.Gen.Mla.Frame
public import proofs.«01_k».proof.Proof.Gen.MlaIdeal.Frame
public import proofs.«01_k».proof.Proof.Gen.Pre_finite_mla
public import Idealize.ShloMosaic.Lib.Pointwise
public import Idealize.ShloMosaic.Lib.Claim

@[expose] public section

set_option maxRecDepth 16384

namespace Mla
open Idealize.ShloMosaic Idealize.ShloMosaic.TcCoe Idealize.SL.Sem

/-- The reference runs to its end, changes no argument and leaves no semaphore raised. -/
theorem frame_of_reference (m : (ℓ : Loc Cert.MlaRefIdeal.nD Cert.MlaRefIdeal.τ Cert.MlaRefIdeal.sig) → Buf (Elt Ideal) ℓ)
    (g : Dev Cert.MlaRefIdeal.nD → PrngReg) :
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0) :=
  (θ_run Cert.MlaRefIdeal.defs _ _).mono (fun r h => ⟨fun c => ⟨(h c).2.1, (h c).2.2.1, (h c).2.2.2.1, (h c).2.2.2.2⟩, Idealize.ShloMosaic.sem_eq_zero_of_no_sems (by decide) r.2⟩)
    (Cert.MlaRefIdeal.Value.run (F := Ideal) m g)

/-- The kernel's frame, at machine words. -/
theorem frame : Cert.quiescent_Mla := fun m g _ => Cert.Mla.Gen.frame m g

/-- The kernel's frame, at extended reals. -/
theorem frame_ideal : Cert.quiescent_MlaIdeal := fun m g _ => Cert.MlaIdeal.Gen.frame m g

/-- The reference's frame. -/
theorem frame_ref : Cert.quiescent_MlaRefIdeal := fun m g _ => frame_of_reference m g

/-- The kernel's frame on finite arguments. -/
theorem frame_ideal_finite : Cert.quiescent_MlaIdeal_pre_finite_mla := fun m g _ => Cert.MlaIdeal.Gen.frame m g

/-- The reference's frame on finite arguments. -/
theorem frame_ref_finite : Cert.quiescent_MlaRefIdeal_pre_finite_mla := fun m g _ => frame_of_reference m g

/-- The named constant at machine words is the word the program holds. -/
theorem preserves : Cert.preserves_Mla_MlaIdeal :=
  IdealRules.named_const.statement Cert.MlaIdeal.κ "c_mla" .f32 0x3DD53B95#32 _ rfl

/-- A finite entry is a real number. -/
theorem finite_re (Q K : FVec Ideal Cert.Pre_finite_mla.S8x4096x2048 .bf16) (W : FVec Ideal Cert.Pre_finite_mla.S8x4096x1024 .bf16)
    (G : FVec Ideal Cert.Pre_finite_mla.S8x4096x9216 .f32) (h : Cert.Pre_finite_mla.fn (F := Ideal) Q K W G = fun _ => 1#1) (i) :
    Attn.Re (Q i) ∧ Attn.Re (K i) := by
  have e := congrFun h i
  have e' : Ideal.cmp .olt (Max.max (Q i) (-Q i)) ⊤ &&& Ideal.cmp .olt (Max.max (K i) (-K i)) ⊤ = 1#1 := by
    rw [← Attn.ofBits_top]; exact e
  exact (Attn.and_bits e').imp Attn.Re.of_cmp Attn.Re.of_cmp

/-- The kernel and the reference end with equal results. -/
theorem algebraic : Cert.algebraic_MlaIdeal_MlaRefIdeal_pre_finite_mla := by
  pair_intro
  · run_from Cert.MlaIdeal.Value.run_blocks m g
  · run_from Cert.MlaRefIdeal.Value.run m' g'
    exact (value m c (fun i => (finite_re _ _ _ _ (hpre c) i).1) (fun i => (finite_re _ _ _ _ (hpre c) i).2)).symm

end Mla
-- ==== Proof.Gate.lean ====
module

public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

namespace Gate
open Cert.GateIdeal Cert.GateIdeal.Gen Idealize.ShloMosaic Idealize.ShloMosaic.TcCoe Idealize.SL.Sem
open Cert.GateRefIdeal.Read

variable (m : (ℓ : Loc nD τ sig) → Buf (Elt Ideal) ℓ)

/-- The column of the weight that column `g` of the gates comes from. -/
def src (g : Fin 9216) : Fin 13120 :=
  ⟨if g.val < 1024 then 832 + g.val else if g.val < 2048 then 2368 + g.val else 3904 + g.val, by split_ifs <;> omega⟩

theorem ref_at (x : FVec Ideal S32768x2048 .bf16) (w : FVec Ideal S2048x13120 .f32) (r : Fin 32768) (g : Fin 9216) :
    val_main_v17 (F := Ideal) x w (ix2 r g) = ∑ k : Fin 2048, x (ix2 r k) * w (ix2 k (src g)) := by
  unfold val_main_v17 val_main_v16 val_main_v15 val_main_v14 val_main_v13 val_main_v9 val_main_v5 val_main_v1 val_main_v0
  pointwise
  split_ifs <;> first | omega | skip
  all_goals exact Finset.sum_congr rfl fun k _ => congrArg (fun i => _ * w (ix2 k i)) (Fin.ext (by show _ + _ = ite _ _ _; split_ifs <;> omega))

/-- A position past the first piece of a concatenation is read in the rest. -/
theorem skip {α : Type} {t s : Shape} (a : Fin t.rank) (j : t.Idx) (x : s.Idx → α) (q : (s : Shape) × (s.Idx → α))
    (xs : List ((s : Shape) × (s.Idx → α)))
    (hs : ∀ s' ∈ (⟨s, x⟩ :: q :: xs : List ((s : Shape) × (s.Idx → α))).map (·.1), s'.FitsOff t a) {c c' : Nat}
    (hc : c < (axisSizes t a (⟨s, x⟩ :: q :: xs)).sum)
    (h : s.size (a.cast (hs s List.mem_cons_self).rank_eq.symm) + c' = c) :
    concatenateAt t a j (⟨s, x⟩ :: q :: xs) hs c hc
      = concatenateAt t a j (q :: xs) (fun s' h => hs s' (List.mem_cons_of_mem _ h)) c'
          (by rw [axisSizes_cons t a ⟨s, x⟩ (q :: xs) (hs s List.mem_cons_self), List.sum_cons] at hc; exact Nat.lt_of_add_lt_add_left (lt_of_eq_of_lt h hc)) := by
  subst h
  rw [concatenateAt_cons, dif_neg (by omega)]
  congr 1
  omega

/-- The gates' columns of the weight's layout. -/
theorem cat_at (x0 : FVec Ideal S2048x1024 .f32) (x1 : FVec Ideal S2048x256 .f32) (x2 : FVec Ideal S2048x256 .f32) (x3 : FVec Ideal S2048x1024 .f32) (x4 : FVec Ideal S2048x256 .f32) (x5 : FVec Ideal S2048x256 .f32) (x6 : FVec Ideal S2048x512 .f32) (x7 : FVec Ideal S2048x256 .f32) (x8 : FVec Ideal S2048x128 .f32) (x9 : FVec Ideal S2048x2176 .f32) (x10 : FVec Ideal S2048x1024 .f32) (x11 : FVec Ideal S2048x1024 .f32) (x12 : FVec Ideal S2048x1024 .f32) (x13 : FVec Ideal S2048x2048 .f32) (x14 : FVec Ideal S2048x2048 .f32) (x15 : FVec Ideal S2048x2048 .f32) (w : FVec Ideal S2048x13120 .f32)
    (h10 : x10 = extractStridedSlice S2048x1024 ![0, 832] w slices_S2048x13120_S2048x1024_0_832) (h11 : x11 = extractStridedSlice S2048x1024 ![0, 3392] w slices_S2048x13120_S2048x1024_0_3392) (h12 : x12 = extractStridedSlice S2048x1024 ![0, 5952] w slices_S2048x13120_S2048x1024_0_5952) (h13 : x13 = extractStridedSlice S2048x2048 ![0, 6976] w slices_S2048x13120_S2048x2048_0_6976) (h14 : x14 = extractStridedSlice S2048x2048 ![0, 9024] w slices_S2048x13120_S2048x2048_0_9024) (h15 : x15 = extractStridedSlice S2048x2048 ![0, 11072] w slices_S2048x13120_S2048x2048_0_11072)
    (k : Fin 2048) (g : Fin 9216) :
    concatenate S2048x15360 1 [⟨S2048x1024, x0⟩, ⟨S2048x256, x1⟩, ⟨S2048x256, x2⟩, ⟨S2048x1024, x3⟩, ⟨S2048x256, x4⟩, ⟨S2048x256, x5⟩, ⟨S2048x512, x6⟩, ⟨S2048x256, x7⟩, ⟨S2048x128, x8⟩, ⟨S2048x2176, x9⟩, ⟨S2048x1024, x10⟩, ⟨S2048x1024, x11⟩, ⟨S2048x1024, x12⟩, ⟨S2048x2048, x13⟩, ⟨S2048x2048, x14⟩, ⟨S2048x2048, x15⟩] concatenates_S2048x1024_S2048x256_S2048x256_S2048x1024_S2048x256_S2048x256_S2048x512_S2048x256_S2048x128_S2048x2176_S2048x1024_S2048x1024_S2048x1024_S2048x2048_S2048x2048_S2048x2048_S2048x15360_d1 (ix2 k ⟨6144 + g.val, by omega⟩)
      = w (ix2 k (src g)) := by
  subst h10 h11 h12 h13 h14 h15
  rw [concatenate_apply]
  refine (skip (c' := 5120 + g.val) _ _ _ _ _ _ _ (show 1024 + (5120 + g.val) = 6144 + g.val by omega)).trans ?_
  refine (skip (c' := 4864 + g.val) _ _ _ _ _ _ _ (show 256 + (4864 + g.val) = 5120 + g.val by omega)).trans ?_
  refine (skip (c' := 4608 + g.val) _ _ _ _ _ _ _ (show 256 + (4608 + g.val) = 4864 + g.val by omega)).trans ?_
  refine (skip (c' := 3584 + g.val) _ _ _ _ _ _ _ (show 1024 + (3584 + g.val) = 4608 + g.val by omega)).trans ?_
  refine (skip (c' := 3328 + g.val) _ _ _ _ _ _ _ (show 256 + (3328 + g.val) = 3584 + g.val by omega)).trans ?_
  refine (skip (c' := 3072 + g.val) _ _ _ _ _ _ _ (show 256 + (3072 + g.val) = 3328 + g.val by omega)).trans ?_
  refine (skip (c' := 2560 + g.val) _ _ _ _ _ _ _ (show 512 + (2560 + g.val) = 3072 + g.val by omega)).trans ?_
  refine (skip (c' := 2304 + g.val) _ _ _ _ _ _ _ (show 256 + (2304 + g.val) = 2560 + g.val by omega)).trans ?_
  refine (skip (c' := 2176 + g.val) _ _ _ _ _ _ _ (show 128 + (2176 + g.val) = 2304 + g.val by omega)).trans ?_
  refine (skip (c' := 0 + g.val) _ _ _ _ _ _ _ (show 2176 + (0 + g.val) = 2176 + g.val by omega)).trans ?_
  pointwise
  split_ifs <;> first | omega | skip
  all_goals exact congrArg (fun i => w (ix2 k i)) (Fin.ext (by show _ + _ = ite _ _ _; split_ifs <;> omega))

theorem col_at (c : Dev nD) (k : Fin 2048) (g : Fin 9216) :
    V m c main_v27 (ix2 k ⟨6144 + g.val, by omega⟩) = m ((c : Thread nD τ).loc main_arg1) (ix2 k (src g)) := by
  show StableHlo.after hostOps0 _ (Proc.devRef .tc main_v27) _ = _
  after_reads_simp
  refine cat_at _ _ _ _ _ _ _ _ _ _ _ _ _ _ _ _ (m ((c : Thread nD τ).loc main_arg1)) ?_ ?_ ?_ ?_ ?_ ?_ k g
  · show StableHlo.upto hostOps0 _ 27 (Proc.devRef .tc main_v3) = _
    after_reads_simp
  · show StableHlo.upto hostOps0 _ 27 (Proc.devRef .tc main_v7) = _
    after_reads_simp
  · show StableHlo.upto hostOps0 _ 27 (Proc.devRef .tc main_v11) = _
    after_reads_simp
  · show StableHlo.upto hostOps0 _ 27 (Proc.devRef .tc main_v12) = _
    after_reads_simp
  · show StableHlo.upto hostOps0 _ 27 (Proc.devRef .tc main_v13) = _
    after_reads_simp
  · show StableHlo.upto hostOps0 _ 27 (Proc.devRef .tc main_v14) = _
    after_reads_simp

/-- Where each window's block stands at a grid point: the rows of `h`, the group of columns. -/
theorem idx : ∀ t : Fin cfg0.N,
    win0_0.index t = ![(grid0.coords t 1).val, 0] ∧ win0_1.index t = ![0, 2 + (grid0.coords t 0).val]
    ∧ win0_2.index t = ![(grid0.coords t 1).val, (grid0.coords t 0).val] ∧ (grid0.coords t 0).val < 3 := by
  decide +kernel

set_option maxHeartbeats 4000000 in
/-- The gates' projection. -/
theorem value (c : Dev nD) :
    (dats m 0 c).arrAt 2 cfg0.N = val_main_v17 (F := Ideal) (m ((c.tc : Thread nD τ).loc main_arg0))
      (m ((c.tc : Thread nD τ).loc main_arg1)) := by
  refine (dats m 0 c).arrAt_eq_of_covers 2 _ (by decide +kernel) fun t hf y => ?_
  blk_simp
  rw [after0_2]
  unfold out0_2
  canon_tiles x h
  all_goals open_payloads
  all_goals pointwise
  all_goals refine Eq.trans ?_ (congrArg (val_main_v17 (F := Ideal) (m ((c.tc : Thread nD τ).loc main_arg0)) (m ((c.tc : Thread nD τ).loc main_arg1))) (eq_ix2 _)).symm
  all_goals refine Eq.trans ?_ (ref_at _ _ _ _).symm
  all_goals refine Finset.sum_congr rfl fun k _ => Ideal.mul_congr ?_ ?_
  all_goals first
    | (refine Eq.trans ?_ (col_at m c k _); blk_ext [iblk, idx t])
    | blk_ext [iblk, V, idx t]

end Gate
-- ==== Proof.GateClaim.lean ====
module

public import proofs.«01_k».proof.Defs
public import proofs.«01_k».proof.Proof.Gate
public import proofs.«01_k».proof.Proof.Gen.Gate.Frame
public import proofs.«01_k».proof.Proof.Gen.GateIdeal.Frame
public import Idealize.ShloMosaic.Lib.Claim

@[expose] public section

set_option maxRecDepth 16384

namespace Gate
open Idealize.ShloMosaic Idealize.ShloMosaic.TcCoe Idealize.SL.Sem

/-- The reference runs to its end, changes no argument and leaves no semaphore raised. -/
theorem frame_of_reference (m : (ℓ : Loc Cert.GateRefIdeal.nD Cert.GateRefIdeal.τ Cert.GateRefIdeal.sig) → Buf (Elt Ideal) ℓ)
    (g : Dev Cert.GateRefIdeal.nD → PrngReg) :
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0) :=
  (θ_run Cert.GateRefIdeal.defs _ _).mono (fun r h => ⟨fun c => ⟨(h c).2.1, (h c).2.2⟩, Idealize.ShloMosaic.sem_eq_zero_of_no_sems (by decide) r.2⟩)
    (Cert.GateRefIdeal.Value.run (F := Ideal) m g)

/-- The kernel's frame, at machine words. -/
theorem frame : Cert.quiescent_Gate := fun m g _ => Cert.Gate.Gen.frame m g

/-- The kernel's frame, at extended reals. -/
theorem frame_ideal : Cert.quiescent_GateIdeal := fun m g _ => Cert.GateIdeal.Gen.frame m g

/-- The reference's frame. -/
theorem frame_ref : Cert.quiescent_GateRefIdeal := fun m g _ => frame_of_reference m g

/-- No operation was renamed. -/
theorem preserves : Cert.preserves_Gate_GateIdeal := trivial

/-- The kernel and the reference end with equal results. -/
theorem algebraic : Cert.algebraic_GateIdeal_GateRefIdeal := by
  pair_intro
  · run_from Cert.GateIdeal.Value.run_blocks m g
  · run_from Cert.GateRefIdeal.Value.run m' g'
    exact (value m c).symm

end Gate
-- ==== Proof.Branch.lean ====
module

public import proofs.«01_k».proof.Proof.Gen.BranchIdeal.Value
public import proofs.«01_k».proof.Proof.Gen.BranchRefIdeal.Run
public import proofs.«01_k».proof.Proof.Gen.BranchRefIdeal.Read
public import Idealize.ShloMosaic.Lib.Pipeline.ValueKit
public import Idealize.ShloMosaic.Lib.Pointwise

@[expose] public section

set_option maxRecDepth 16384

namespace Branch
open Cert.BranchIdeal Cert.BranchIdeal.Gen Idealize.ShloMosaic Idealize.ShloMosaic.TcCoe Idealize.SL.Sem
open Cert.BranchRefIdeal.Read

variable (m : (ℓ : Loc nD τ sig) → Buf (Elt Ideal) ℓ)

/-- Where each window's block stands at a grid point. -/
theorem idx : ∀ t : Fin cfg0.N,
    win0_0.index t = ![(grid0.coords t 0).val, 0] ∧ win0_1.index t = ![(grid0.coords t 0).val, 0]
    ∧ win0_2.index t = ![(grid0.coords t 0).val, 0]
    ∧ win0_3.index t = ![0, 0] ∧ win0_4.index t = ![0, 0] ∧ win0_5.index t = ![0, 0]
    ∧ win0_6.index t = ![(grid0.coords t 0).val, 3] ∧ win0_7.index t = ![(grid0.coords t 0).val, 4]
    ∧ win0_8.index t = ![(grid0.coords t 0).val, 5] ∧ win0_9.index t = ![(grid0.coords t 0).val, 6]
    ∧ win0_10.index t = ![(grid0.coords t 0).val, 7] ∧ win0_11.index t = ![(grid0.coords t 0).val, 8]
    ∧ win0_12.index t = ![(grid0.coords t 0).val, 0] := by
  decide +kernel

theorem value (c : Dev nD) :
    (dats m 0 c).arrAt 12 cfg0.N = val_main_v32 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  refine (dats m 0 c).arrAt_eq_of_covers 12 _ (by decide +kernel) fun t hf y => ?_
  blk_simp
  rw [after0_12]
  unfold out0_12
  canon_tiles x h
  all_goals open_payloads
  all_goals unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4
  all_goals pointwise [Ideal.logistic, Ideal.ofBits_one_f32]
  all_goals blk_point [iblk, V, idx t]

end Branch
-- ==== Proof.BranchClaim.lean ====
module

public import proofs.«01_k».proof.Defs
public import proofs.«01_k».proof.Proof.Branch
public import proofs.«01_k».proof.Proof.Gen.Branch.Frame
public import proofs.«01_k».proof.Proof.Gen.BranchIdeal.Frame
public import Idealize.ShloMosaic.Lib.Claim

@[expose] public section

set_option maxRecDepth 16384

namespace Branch
open Idealize.ShloMosaic Idealize.ShloMosaic.TcCoe Idealize.SL.Sem

/-- The reference runs to its end, changes no argument and leaves no semaphore raised. -/
theorem frame_of_reference (m : (ℓ : Loc Cert.BranchRefIdeal.nD Cert.BranchRefIdeal.τ Cert.BranchRefIdeal.sig) → Buf (Elt Ideal) ℓ)
    (g : Dev Cert.BranchRefIdeal.nD → PrngReg) :
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0) :=
  (θ_run Cert.BranchRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2⟩, Idealize.ShloMosaic.sem_eq_zero_of_no_sems (by decide) r.2⟩)
    (Cert.BranchRefIdeal.Value.run (F := Ideal) m g)

/-- The kernel's frame, at machine words. -/
theorem frame : Cert.quiescent_Branch := fun m g _ => Cert.Branch.Gen.frame m g

/-- The kernel's frame, at extended reals. -/
theorem frame_ideal : Cert.quiescent_BranchIdeal := fun m g _ => Cert.BranchIdeal.Gen.frame m g

/-- The reference's frame. -/
theorem frame_ref : Cert.quiescent_BranchRefIdeal := fun m g _ => frame_of_reference m g

/-- No operation was renamed. -/
theorem preserves : Cert.preserves_Branch_BranchIdeal := trivial

/-- The kernel and the reference end with equal results. -/
theorem algebraic : Cert.algebraic_BranchIdeal_BranchRefIdeal := by
  pair_intro
  · run_from Cert.BranchIdeal.Value.run_blocks m g
  · run_from Cert.BranchRefIdeal.Value.run m' g'
    exact (value m c).symm

end Branch
-- ==== Proof.Out.lean ====
module

public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise

@[expose] public section

set_option maxRecDepth 16384

namespace Out
open Cert.OutIdeal Cert.OutIdeal.Gen Idealize.ShloMosaic Idealize.ShloMosaic.TcCoe Idealize.SL.Sem
open Cert.OutRefIdeal.Read

variable (m : (ℓ : Loc nD τ sig) → Buf (Elt Ideal) ℓ)

/-- Where each window's block stands at a grid point: the batch, the rows of the sequence, the part of the modulation. -/
theorem idx : ∀ t : Fin cfg0.N,
    win0_0.index t = ![(grid0.coords t 0).val, (grid0.coords t 1).val, 0] ∧ win0_1.index t = ![0, 0]
    ∧ win0_2.index t = ![(grid0.coords t 0).val, (grid0.coords t 1).val, 0]
    ∧ win0_3.index t = ![(grid0.coords t 0).val, 0, 2] ∧ win0_4.index t = ![0, 0]
    ∧ win0_5.index t = ![(grid0.coords t 0).val, 0, 0] ∧ win0_6.index t = ![(grid0.coords t 0).val, 0, 1]
    ∧ win0_7.index t = ![(grid0.coords t 0).val, (grid0.coords t 1).val, 0]
    ∧ win0_8.index t = ![(grid0.coords t 0).val, (grid0.coords t 1).val, 0] := by
  decide +kernel

/-- The residual stream after the layer. -/
theorem value_x (c : Dev nD) :
    (dats m 0 c).arrAt 7 cfg0.N = val_main_v5 (F := Ideal) (m ((c.tc : Thread nD τ).loc main_arg0))
      (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7]
  unfold out0_7
  canon_tiles x h
  all_goals open_payloads
  all_goals unfold val_main_v5 val_main_v4 val_main_v3 val_main_v2 val_main_v1 val_main_v0
  all_goals pointwise
  all_goals blk_point [iblk, V, idx t]

/-- The next layer's normed and modulated input. -/
theorem value_h (c : Dev nD) :
    (dats m 0 c).arrAt 8 cfg0.N = val_main_v27 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 8 _ (by decide +kernel) fun t hf y => ?_
  blk_simp
  rw [after0_8]
  unfold out0_8
  canon_tiles x h
  all_goals open_payloads
  all_goals unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  all_goals pointwise
  all_goals blk_point [iblk, V, idx t]

end Out
-- ==== Proof.OutClaim.lean ====
module

public import proofs.«01_k».proof.Defs
public import proofs.«01_k».proof.Proof.Out
public import proofs.«01_k».proof.Proof.Gen.Out.Frame
public import proofs.«01_k».proof.Proof.Gen.OutIdeal.Frame
public import Idealize.ShloMosaic.Lib.Claim

@[expose] public section

set_option maxRecDepth 16384

namespace Out
open Idealize.ShloMosaic Idealize.ShloMosaic.TcCoe Idealize.SL.Sem

/-- The reference runs to its end, changes no argument and leaves no semaphore raised. -/
theorem frame_of_reference (m : (ℓ : Loc Cert.OutRefIdeal.nD Cert.OutRefIdeal.τ Cert.OutRefIdeal.sig) → Buf (Elt Ideal) ℓ)
    (g : Dev Cert.OutRefIdeal.nD → PrngReg) :
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0) :=
  (θ_run Cert.OutRefIdeal.defs _ _).mono (fun r h => ⟨fun c => ⟨(h c).2.2.1, (h c).2.2.2.1, (h c).2.2.2.2.1, (h c).2.2.2.2.2.1, (h c).2.2.2.2.2.2.1, (h c).2.2.2.2.2.2.2⟩, Idealize.ShloMosaic.sem_eq_zero_of_no_sems (by decide) r.2⟩)
    (Cert.OutRefIdeal.Value.run (F := Ideal) m g)

/-- The kernel's frame, at machine words. -/
theorem frame : Cert.quiescent_Out := fun m g _ => Cert.Out.Gen.frame m g

/-- The kernel's frame, at extended reals. -/
theorem frame_ideal : Cert.quiescent_OutIdeal := fun m g _ => Cert.OutIdeal.Gen.frame m g

/-- The reference's frame. -/
theorem frame_ref : Cert.quiescent_OutRefIdeal := fun m g _ => frame_of_reference m g

/-- No operation was renamed. -/
theorem preserves : Cert.preserves_Out_OutIdeal := trivial

/-- The kernel and the reference end with equal results. -/
theorem algebraic : Cert.algebraic_OutIdeal_OutRefIdeal := by
  pair_intro
  · run_from Cert.OutIdeal.Value.run_blocks m g
  · run_from Cert.OutRefIdeal.Value.run m' g'
    · exact (value_x m c).symm
    · exact (value_h m c).symm

end Out
-- ==== Proof.QkvRows.lean ====
module

public import proofs.«01_k».proof.Proof.Gen.QkvIdeal.Skeleton
public import Idealize.ShloMosaic.Lib.Pipeline.ValueKit
public import Idealize.ShloMosaic.Lib.Pointwise

@[expose] public section

set_option maxRecDepth 16384

namespace Qkv
open Cert.QkvIdeal Cert.QkvIdeal.Gen Idealize.ShloMosaic Idealize.ShloMosaic.TcCoe Idealize.SL.Sem

/-- One entry of a projection: a row of the input times a column of the weight. -/
noncomputable def dotP (x w : Fin 2048 → EReal) : EReal := ∑ k : Fin 2048, x k * w k

/-- A vector divided by the root of its mean square, times a gain: its entry at `d`. -/
noncomputable def nrm {n : ℕ} (N : EReal) (f : Fin n → EReal) (g : EReal) (d : Fin n) : EReal :=
  f d * Ideal.rsqrt (Ideal.div (∑ j : Fin n, f j * f j) N + Ideal.ofBits .f32 0x358637BD#32) * g

/-- Half of a tile of the projection, as the kernel cuts it. -/
noncomputable abbrev head0 (f : Vec Ideal S256x2048 .bf16) (w : Vec Ideal S2048x256 .bf16) : FVec Ideal S256x128 .f32 :=
  extractStridedSlice S256x128 ![0, 0] (matmul (φ₁ := .bf16) (φ₂ := .bf16) dot_S256x2048_S2048x256_S256x256_1_0_0_1_n_n none f
    (shapeCast S2048x256 w shapeCasts_S2048x256_S2048x256) (constant S256x256 .f32 0x00000000#32)) slices_S256x256_o0_0_S256x128

noncomputable abbrev head1 (f : Vec Ideal S256x2048 .bf16) (w : Vec Ideal S2048x256 .bf16) : FVec Ideal S256x128 .f32 :=
  extractStridedSlice S256x128 ![0, 128] (matmul (φ₁ := .bf16) (φ₂ := .bf16) dot_S256x2048_S2048x256_S256x256_1_0_0_1_n_n none f
    (shapeCast S2048x256 w shapeCasts_S2048x256_S2048x256) (constant S256x256 .f32 0x00000000#32)) slices_S256x256_o0_128_S256x128

/-- The norm of a head's rows, as the kernel writes it. -/
noncomputable abbrev normT (x : FVec Ideal S256x128 .f32) (g : Vec Ideal S1x128 .f32) : FVec Ideal S256x128 .f32 :=
  mulf (mulf x (broadcastTo S256x128 (rsqrt (addf (divf (shapeCast S256x1
    (multiReduction .add [1] S256 (mulf x x) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 (shapeCast S1x128 g shapeCasts_S1x128_S1x128) broadcasts_S1x128_S256x128)

/-- The rotation of a head's rows, as the kernel writes it. -/
noncomputable abbrev ropeT (y : FVec Ideal S256x128 .f32) (c s : Vec Ideal S256x128 .f32) : FVec Ideal S256x128 .bf16 :=
  truncf .bf16 (addf (mulf y (shapeCast S256x128 c shapeCasts_S256x128_S256x128))
    (mulf (dynamicRotate 1 64#32 none y rotates_S256x128_d1) (shapeCast S256x128 s shapeCasts_S256x128_S256x128))) bitsLt_bf16_f32

theorem head0_at (f : Vec Ideal S256x2048 .bf16) (w : Vec Ideal S2048x256 .bf16) (a : Fin 256) (d : Fin 128) :
    head0 f w (ix2 a d) = dotP (fun k => f (ix2 a k)) (fun k => w (ix2 k ⟨d, by omega⟩)) := by
  unfold head0 dotP
  pointwise

theorem head1_at (f : Vec Ideal S256x2048 .bf16) (w : Vec Ideal S2048x256 .bf16) (a : Fin 256) (d : Fin 128) :
    head1 f w (ix2 a d) = dotP (fun k => f (ix2 a k)) (fun k => w (ix2 k ⟨128 + d, by omega⟩)) := by
  unfold head1 dotP
  pointwise

theorem normT_at (x : FVec Ideal S256x128 .f32) (g : Vec Ideal S1x128 .f32) (a : Fin 256) (d : Fin 128) :
    normT x g (ix2 a d) = nrm (Ideal.ofBits .f32 0x43000000#32) (fun j => x (ix2 a j)) (g (ix2 0 d)) d := by
  unfold normT nrm
  pointwise

theorem ropeT_at (y : FVec Ideal S256x128 .f32) (c s : Vec Ideal S256x128 .f32) (a : Fin 256) (d : Fin 128) :
    ropeT y c s (ix2 a d) = y (ix2 a d) * c (ix2 a d) + y (ix2 a ⟨(d + 128 - 64) % 128, by omega⟩) * s (ix2 a d) := by
  unfold ropeT
  pointwise

theorem plain_at (f : Vec Ideal S256x2048 .bf16) (w : Vec Ideal S2048x256 .bf16) (a : Fin 256) (d : Fin 256) :
    (truncf .bf16 (matmul (φ₁ := .bf16) (φ₂ := .bf16) dot_S256x2048_S2048x256_S256x256_1_0_0_1_n_n none f
    (shapeCast S2048x256 w shapeCasts_S2048x256_S2048x256) (constant S256x256 .f32 0x00000000#32)) bitsLt_bf16_f32 : FVec Ideal S256x256 .bf16) (ix2 a d)
      = dotP (fun k => f (ix2 a k)) (fun k => w (ix2 k d)) := by
  unfold dotP
  pointwise

theorem kr_at (f : Vec Ideal S256x2048 .bf16) (w : Vec Ideal S2048x128 .bf16) (a : Fin 256) (d : Fin 128) :
    (matmul (φ₁ := .bf16) (φ₂ := .bf16) dot_S256x2048_S2048x128_S256x128_1_0_0_1_n_n none f
    (shapeCast S2048x128 w shapeCasts_S2048x128_S2048x128) (constant S256x128 .f32 0x00000000#32) : FVec Ideal S256x128 .f32) (ix2 a d)
      = dotP (fun k => f (ix2 a k)) (fun k => w (ix2 k d)) := by
  unfold dotP
  pointwise

/-- The queries' latent, as the kernel writes it. -/
noncomputable abbrev latT (f : Vec Ideal S256x2048 .bf16) (w : Vec Ideal S2048x512 .bf16) (g : Vec Ideal S1x512 .f32) : FVec Ideal S256x512 .bf16 :=
  k0_pay1 (F := Ideal) f w g

theorem lat_at (f : Vec Ideal S256x2048 .bf16) (w : Vec Ideal S2048x512 .bf16) (g : Vec Ideal S1x512 .f32) (a : Fin 256) (d : Fin 512) :
    k0_pay1 (F := Ideal) f w g (ix2 a d)
      = nrm (Ideal.ofBits .f32 0x44000000#32) (fun j => dotP (fun k => f (ix2 a k)) (fun k => w (ix2 k j))) (g (ix2 0 d)) d := by
  unfold nrm dotP
  pointwise [k0_pay1]

theorem klat_at (f : Vec Ideal S256x2048 .bf16) (w : Vec Ideal S2048x256 .bf16) (g : Vec Ideal S1x256 .f32) (a : Fin 256) (d : Fin 256) :
    k0_pay4 (F := Ideal) (k0_pay2 f w) (k0_pay3 g) (ix2 a d)
      = nrm (Ideal.ofBits .f32 0x43800000#32) (fun j => dotP (fun k => f (ix2 a k)) (fun k => w (ix2 k j))) (g (ix2 0 d)) d := by
  unfold nrm dotP
  pointwise [k0_pay4, k0_pay3, k0_pay2]

end Qkv
-- ==== Proof.QkvRef.lean ====
module

public import proofs.«01_k».proof.Proof.Gen.QkvRefIdeal.Read
public import proofs.«01_k».proof.Proof.QkvRows

@[expose] public section

set_option maxRecDepth 16384

namespace Qkv
open Cert.QkvRefIdeal Idealize.ShloMosaic Idealize.ShloMosaic.TcCoe Idealize.SL.Sem
open Cert.QkvRefIdeal.Read

/-- An entry of the whole projection: row `r` of the input times column `q` of the weight. -/
noncomputable def prj (x : FVec Ideal S32768x2048 .bf16) (w : FVec Ideal S2048x13120 .f32) (r : Fin 32768) (q : Fin 13120) : EReal :=
  dotP (fun k => x (ix2 r k)) (fun k => w (ix2 k q))

/-- The order of a head's lanes: the first halves of the rows' and the columns' lanes, then the second halves. -/
def lane (j : Fin 128) : Fin 128 := ⟨j.val / 32 % 2 * 64 + j.val / 64 * 32 + j.val % 32, by omega⟩

/-- The cosine a lane is multiplied by at a position, in the order of `lane`. -/
noncomputable def cosL (s : Fin 4096) (d : Fin 128) : EReal :=
  if d.val / 32 % 2 = 0 then val_main_v51 (F := Ideal) (ix2 s ⟨d.val % 32, by omega⟩) else val_main_v79 (F := Ideal) (ix2 s ⟨d.val % 32, by omega⟩)

/-- The sine the partner lane is multiplied by, negative on the first half. -/
noncomputable def sinL (s : Fin 4096) (d : Fin 128) : EReal :=
  if d.val < 64 then -(if d.val / 32 % 2 = 0 then val_main_v53 (F := Ideal) (ix2 s ⟨d.val % 32, by omega⟩) else val_main_v81 (F := Ideal) (ix2 s ⟨d.val % 32, by omega⟩))
  else if d.val / 32 % 2 = 0 then val_main_v53 (F := Ideal) (ix2 s ⟨d.val % 32, by omega⟩) else val_main_v81 (F := Ideal) (ix2 s ⟨d.val % 32, by omega⟩)

/-- The rotation of a head whose lanes are in the order of `lane`. -/
noncomputable def rot (n : Fin 128 → EReal) (s : Fin 4096) (d : Fin 128) : EReal :=
  n (lane d) * cosL s d + n (lane ⟨(d.val + 128 - 64) % 128, by omega⟩) * sinL s d

theorem v38_at (x : FVec Ideal S32768x2048 .bf16) (w : FVec Ideal S2048x13120 .f32) (g : FVec Ideal S128 .f32) (b : Fin 8) (s : Fin 4096) (h : Fin 8) (d : Fin 128) :
    val_main_v38 (F := Ideal) x w g (ix4 b s h d)
      = nrm (Ideal.ofBits .f32 0x43000000#32) (fun j => prj x w ⟨b * 4096 + s, by omega⟩ ⟨1856 + (h * 128 + j), by omega⟩) (g (ix1 d)) d := by
  unfold nrm prj dotP
  pointwise [val_main_v38, val_main_v37, val_main_v36, val_main_v35, val_main_v34, val_main_v33, val_main_v32, val_main_v31, val_main_cst_1, val_main_v30, val_main_v29, val_main_cst_0, val_main_v28, val_main_v27, val_main_cst, val_main_v26, val_main_v25, val_main_v7, val_main_v2, val_main_v1, val_main_v0]

theorem v110_at (x : FVec Ideal S32768x2048 .bf16) (w : FVec Ideal S2048x13120 .f32) (g : FVec Ideal S128 .f32) (b : Fin 8) (s : Fin 4096) (h : Fin 2) (d : Fin 128) :
    val_main_v110 (F := Ideal) x w g (ix4 b s h d)
      = nrm (Ideal.ofBits .f32 0x43000000#32) (fun j => prj x w ⟨b * 4096 + s, by omega⟩ ⟨2880 + (h * 128 + j), by omega⟩) (g (ix1 d)) d := by
  unfold nrm prj dotP
  pointwise [val_main_v110, val_main_v109, val_main_v108, val_main_v107, val_main_v106, val_main_v105, val_main_v104, val_main_v103, val_main_cst_8, val_main_v102, val_main_v101, val_main_cst_7, val_main_v100, val_main_v99, val_main_cst_6, val_main_v98, val_main_v97, val_main_v8, val_main_v2, val_main_v1, val_main_v0]

theorem v182_at (x : FVec Ideal S32768x2048 .bf16) (w : FVec Ideal S2048x13120 .f32) (g : FVec Ideal S128 .f32) (b : Fin 8) (s : Fin 4096) (h : Fin 8) (d : Fin 128) :
    val_main_v182 (F := Ideal) x w g (ix4 b s h d)
      = nrm (Ideal.ofBits .f32 0x43000000#32) (fun j => prj x w ⟨b * 4096 + s, by omega⟩ ⟨4416 + (h * 128 + j), by omega⟩) (g (ix1 d)) d := by
  unfold nrm prj dotP
  pointwise [val_main_v182, val_main_v181, val_main_v180, val_main_v179, val_main_v178, val_main_v177, val_main_v176, val_main_v175, val_main_cst_15, val_main_v174, val_main_v173, val_main_cst_14, val_main_v172, val_main_v171, val_main_cst_13, val_main_v170, val_main_v169, val_main_v11, val_main_v2, val_main_v1, val_main_v0]

theorem v197_at (x : FVec Ideal S32768x2048 .bf16) (w : FVec Ideal S2048x13120 .f32) (g : FVec Ideal S128 .f32) (b : Fin 8) (s : Fin 4096) (h : Fin 2) (d : Fin 128) :
    val_main_v197 (F := Ideal) x w g (ix4 b s h d)
      = nrm (Ideal.ofBits .f32 0x43000000#32) (fun j => prj x w ⟨b * 4096 + s, by omega⟩ ⟨5440 + (h * 128 + j), by omega⟩) (g (ix1 d)) d := by
  unfold nrm prj dotP
  pointwise [val_main_v197, val_main_v196, val_main_v195, val_main_v194, val_main_v193, val_main_v192, val_main_v191, val_main_v190, val_main_cst_18, val_main_v189, val_main_v188, val_main_cst_17, val_main_v187, val_main_v186, val_main_cst_16, val_main_v185, val_main_v184, val_main_v12, val_main_v2, val_main_v1, val_main_v0]

theorem v211_at (x : FVec Ideal S32768x2048 .bf16) (w : FVec Ideal S2048x13120 .f32) (g : FVec Ideal S512 .f32) (b : Fin 8) (s : Fin 4096) (d : Fin 512) :
    val_main_v211 (F := Ideal) x w g (ix3 b s d)
      = nrm (Ideal.ofBits .f32 0x44000000#32) (fun j => prj x w ⟨b * 4096 + s, by omega⟩ ⟨0 + j, by omega⟩) (g (ix1 d)) d := by
  unfold nrm prj dotP
  pointwise [val_main_v211, val_main_v210, val_main_v209, val_main_v208, val_main_v207, val_main_v206, val_main_v205, val_main_v204, val_main_cst_21, val_main_v203, val_main_v202, val_main_cst_20, val_main_v201, val_main_v200, val_main_cst_19, val_main_v199, val_main_v3, val_main_v2, val_main_v1, val_main_v0]

theorem v225_at (x : FVec Ideal S32768x2048 .bf16) (w : FVec Ideal S2048x13120 .f32) (g : FVec Ideal S256 .f32) (b : Fin 8) (s : Fin 4096) (d : Fin 256) :
    val_main_v225 (F := Ideal) x w g (ix3 b s d)
      = nrm (Ideal.ofBits .f32 0x43800000#32) (fun j => prj x w ⟨b * 4096 + s, by omega⟩ ⟨512 + j, by omega⟩) (g (ix1 d)) d := by
  unfold nrm prj dotP
  pointwise [val_main_v225, val_main_v224, val_main_v223, val_main_v222, val_main_v221, val_main_v220, val_main_v219, val_main_v218, val_main_cst_24, val_main_v217, val_main_v216, val_main_cst_23, val_main_v215, val_main_v214, val_main_cst_22, val_main_v213, val_main_v4, val_main_v2, val_main_v1, val_main_v0]

theorem at_congr {α : Type} {n : ℕ} (f : Fin n → α) {i j : Fin n} (h : i.val = j.val) : f i = f j := congrArg f (Fin.ext h)

theorem sub_mul_neg (a b c d : EReal) : a * c - b * d = a * c + b * -d := by
  rw [sub_eq_add_neg, mul_neg]

theorem v123_eq : val_main_v123 (F := Ideal) = val_main_v51 (F := Ideal) := rfl

theorem v125_eq : val_main_v125 (F := Ideal) = val_main_v53 (F := Ideal) := rfl

theorem v151_eq : val_main_v151 (F := Ideal) = val_main_v79 (F := Ideal) := rfl

theorem v153_eq : val_main_v153 (F := Ideal) = val_main_v81 (F := Ideal) := rfl

theorem v95_at (x : FVec Ideal S32768x2048 .bf16) (w : FVec Ideal S2048x13120 .f32) (g : FVec Ideal S128 .f32) (b : Fin 8) (s : Fin 4096) (h : Fin 8) (d : Fin 128) :
    val_main_v95 (F := Ideal) x w g (ix4 b s h d) = rot (fun j => val_main_v38 (F := Ideal) x w g (ix4 b s h j)) s d := by
  unfold rot cosL sinL lane val_main_v95
  pointwise [val_main_v94, val_main_v93, val_main_v92, val_main_v91, val_main_v90, val_main_v89, val_main_v88, val_main_v87, val_main_v86, val_main_v85, val_main_v84, val_main_v83, val_main_v82, val_main_v80, val_main_v67, val_main_v66, val_main_v65, val_main_v64, val_main_v63, val_main_v62, val_main_v61, val_main_v60, val_main_v59, val_main_v58, val_main_v57, val_main_v56, val_main_v55, val_main_v54, val_main_v52, val_main_v39]
  by_cases h1 : d.val < 32
  · simp only [dif_pos h1, if_pos (show d.val / 32 % 2 = 0 by omega), if_pos (show d.val < 64 by omega)]
    rw [sub_mul_neg]
    exact congrArg₂ (· + ·)
      (Ideal.mul_congr (at_congr (fun k => val_main_v38 (F := Ideal) x w g (ix4 b s h k)) (by dsimp only; (try omega)))
        (at_congr (fun k => val_main_v51 (F := Ideal) (ix2 s k)) (by dsimp only; (try omega))))
      (Ideal.mul_congr (at_congr (fun k => val_main_v38 (F := Ideal) x w g (ix4 b s h k)) (by dsimp only; (try omega)))
        (at_congr (fun k => (-val_main_v53 (F := Ideal) (ix2 s k) : EReal)) (by dsimp only; (try omega))))
  by_cases h2 : d.val - 32 < 32
  · simp only [dif_neg h1, dif_pos h2, if_neg (show ¬ d.val / 32 % 2 = 0 by omega), if_pos (show d.val < 64 by omega)]
    rw [sub_mul_neg]
    exact congrArg₂ (· + ·)
      (Ideal.mul_congr (at_congr (fun k => val_main_v38 (F := Ideal) x w g (ix4 b s h k)) (by dsimp only; (try omega)))
        (at_congr (fun k => val_main_v79 (F := Ideal) (ix2 s k)) (by dsimp only; (try omega))))
      (Ideal.mul_congr (at_congr (fun k => val_main_v38 (F := Ideal) x w g (ix4 b s h k)) (by dsimp only; (try omega)))
        (at_congr (fun k => (-val_main_v81 (F := Ideal) (ix2 s k) : EReal)) (by dsimp only; (try omega))))
  by_cases h3 : d.val - 32 - 32 < 32
  · simp only [dif_neg h1, dif_neg h2, dif_pos h3, if_pos (show d.val / 32 % 2 = 0 by omega), if_neg (show ¬ d.val < 64 by omega)]
    exact congrArg₂ (· + ·)
      (Ideal.mul_congr (at_congr (fun k => val_main_v38 (F := Ideal) x w g (ix4 b s h k)) (by dsimp only; (try omega)))
        (at_congr (fun k => val_main_v51 (F := Ideal) (ix2 s k)) (by dsimp only; (try omega))))
      (Ideal.mul_congr (at_congr (fun k => val_main_v38 (F := Ideal) x w g (ix4 b s h k)) (by dsimp only; (try omega)))
        (at_congr (fun k => val_main_v53 (F := Ideal) (ix2 s k)) (by dsimp only; (try omega))))
  · simp only [dif_neg h1, dif_neg h2, dif_neg h3, if_neg (show ¬ d.val / 32 % 2 = 0 by omega), if_neg (show ¬ d.val < 64 by omega)]
    exact congrArg₂ (· + ·)
      (Ideal.mul_congr (at_congr (fun k => val_main_v38 (F := Ideal) x w g (ix4 b s h k)) (by dsimp only; (try omega)))
        (at_congr (fun k => val_main_v79 (F := Ideal) (ix2 s k)) (by dsimp only; (try omega))))
      (Ideal.mul_congr (at_congr (fun k => val_main_v38 (F := Ideal) x w g (ix4 b s h k)) (by dsimp only; (try omega)))
        (at_congr (fun k => val_main_v81 (F := Ideal) (ix2 s k)) (by dsimp only; (try omega))))

theorem v167_at (x : FVec Ideal S32768x2048 .bf16) (w : FVec Ideal S2048x13120 .f32) (g : FVec Ideal S128 .f32) (b : Fin 8) (s : Fin 4096) (h : Fin 2) (d : Fin 128) :
    val_main_v167 (F := Ideal) x w g (ix4 b s h d) = rot (fun j => val_main_v110 (F := Ideal) x w g (ix4 b s h j)) s d := by
  unfold rot cosL sinL lane val_main_v167
  pointwise [val_main_v166, val_main_v165, val_main_v164, val_main_v163, val_main_v162, val_main_v161, val_main_v160, val_main_v159, val_main_v158, val_main_v157, val_main_v156, val_main_v155, val_main_v154, val_main_v152, val_main_v139, val_main_v138, val_main_v137, val_main_v136, val_main_v135, val_main_v134, val_main_v133, val_main_v132, val_main_v131, val_main_v130, val_main_v129, val_main_v128, val_main_v127, val_main_v126, val_main_v124, val_main_v111, v123_eq, v125_eq, v151_eq, v153_eq]
  by_cases h1 : d.val < 32
  · simp only [dif_pos h1, if_pos (show d.val / 32 % 2 = 0 by omega), if_pos (show d.val < 64 by omega)]
    rw [sub_mul_neg]
    exact congrArg₂ (· + ·)
      (Ideal.mul_congr (at_congr (fun k => val_main_v110 (F := Ideal) x w g (ix4 b s h k)) (by dsimp only; (try omega)))
        (at_congr (fun k => val_main_v51 (F := Ideal) (ix2 s k)) (by dsimp only; (try omega))))
      (Ideal.mul_congr (at_congr (fun k => val_main_v110 (F := Ideal) x w g (ix4 b s h k)) (by dsimp only; (try omega)))
        (at_congr (fun k => (-val_main_v53 (F := Ideal) (ix2 s k) : EReal)) (by dsimp only; (try omega))))
  by_cases h2 : d.val - 32 < 32
  · simp only [dif_neg h1, dif_pos h2, if_neg (show ¬ d.val / 32 % 2 = 0 by omega), if_pos (show d.val < 64 by omega)]
    rw [sub_mul_neg]
    exact congrArg₂ (· + ·)
      (Ideal.mul_congr (at_congr (fun k => val_main_v110 (F := Ideal) x w g (ix4 b s h k)) (by dsimp only; (try omega)))
        (at_congr (fun k => val_main_v79 (F := Ideal) (ix2 s k)) (by dsimp only; (try omega))))
      (Ideal.mul_congr (at_congr (fun k => val_main_v110 (F := Ideal) x w g (ix4 b s h k)) (by dsimp only; (try omega)))
        (at_congr (fun k => (-val_main_v81 (F := Ideal) (ix2 s k) : EReal)) (by dsimp only; (try omega))))
  by_cases h3 : d.val - 32 - 32 < 32
  · simp only [dif_neg h1, dif_neg h2, dif_pos h3, if_pos (show d.val / 32 % 2 = 0 by omega), if_neg (show ¬ d.val < 64 by omega)]
    exact congrArg₂ (· + ·)
      (Ideal.mul_congr (at_congr (fun k => val_main_v110 (F := Ideal) x w g (ix4 b s h k)) (by dsimp only; (try omega)))
        (at_congr (fun k => val_main_v51 (F := Ideal) (ix2 s k)) (by dsimp only; (try omega))))
      (Ideal.mul_congr (at_congr (fun k => val_main_v110 (F := Ideal) x w g (ix4 b s h k)) (by dsimp only; (try omega)))
        (at_congr (fun k => val_main_v53 (F := Ideal) (ix2 s k)) (by dsimp only; (try omega))))
  · simp only [dif_neg h1, dif_neg h2, dif_neg h3, if_neg (show ¬ d.val / 32 % 2 = 0 by omega), if_neg (show ¬ d.val < 64 by omega)]
    exact congrArg₂ (· + ·)
      (Ideal.mul_congr (at_congr (fun k => val_main_v110 (F := Ideal) x w g (ix4 b s h k)) (by dsimp only; (try omega)))
        (at_congr (fun k => val_main_v79 (F := Ideal) (ix2 s k)) (by dsimp only; (try omega))))
      (Ideal.mul_congr (at_congr (fun k => val_main_v110 (F := Ideal) x w g (ix4 b s h k)) (by dsimp only; (try omega)))
        (at_congr (fun k => val_main_v81 (F := Ideal) (ix2 s k)) (by dsimp only; (try omega))))

theorem prj_congr (x : FVec Ideal S32768x2048 .bf16) (w : FVec Ideal S2048x13120 .f32) {r r' : Fin 32768} {q q' : Fin 13120}
    (hr : r.val = r'.val) (hq : q.val = q'.val) : prj x w r q = prj x w r' q' := by
  rw [Fin.ext hr, Fin.ext hq]

theorem nrm_congr {n : ℕ} (N : EReal) {f f' : Fin n → EReal} {g g' : EReal} (hf : ∀ i, f i = f' i) (hg : g = g') (d : Fin n) :
    nrm N f g d = nrm N f' g' d := by
  rw [show f = f' from funext hf, hg]

theorem nrm_at_congr {n : ℕ} (N : EReal) {f f' : Fin n → EReal} (hf : ∀ i, f i = f' i) (g : (⟨1, ![n]⟩ : Shape).Idx → EReal) {d d' : Fin n}
    (hd : d.val = d'.val) : nrm N f (g (ix1 d)) d = nrm N f' (g (ix1 d')) d' := by
  rw [show f = f' from funext hf, Fin.ext hd]

theorem rot_congr {n n' : Fin 128 → EReal} (s : Fin 4096) (hn : ∀ j, n j = n' j) {d d' : Fin 128} (hd : d.val = d'.val) :
    rot n s d = rot n' s d' := by
  rw [show n = n' from funext hn, Fin.ext hd]

theorem ref_aq (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (b : ℕ) (d : Fin 128) (hn : n.val = b + d.val) (hb : b % 128 = 0) (h : b + 128 ≤ 1024) :
    val_main_v231 (F := Ideal) x w x2 x3 x4 x5 x6 x7 (ix2 r n)
      = rot (fun j => nrm (Ideal.ofBits .f32 0x43000000#32) (fun j => prj x w r ⟨1856 + (b + j.val), by omega⟩) (x2 (ix1 j)) j) ⟨r % 4096, by omega⟩ d := by
  unfold val_main_v231 val_main_v230
  pointwise
  split_ifs <;> first | omega | skip
  unfold val_main_v96
  pointwise
  rw [v95_at]
  simp only [v38_at]
  refine rot_congr _ (fun j => nrm_congr _ (fun i => prj_congr x w (by dsimp only; (try omega)) (by dsimp only; (try omega))) rfl j) (by dsimp only; (try omega))

theorem ref_ak (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (b : ℕ) (d : Fin 128) (hn : n.val = b + d.val) (hb : b % 128 = 0) (h0 : 1024 ≤ b) (h : b + 128 ≤ 1280) :
    val_main_v231 (F := Ideal) x w x2 x3 x4 x5 x6 x7 (ix2 r n)
      = rot (fun j => nrm (Ideal.ofBits .f32 0x43000000#32) (fun j => prj x w r ⟨2880 + (b - 1024 + j.val), by omega⟩) (x3 (ix1 j)) j) ⟨r % 4096, by omega⟩ d := by
  unfold val_main_v231 val_main_v230
  pointwise
  split_ifs <;> first | omega | skip
  unfold val_main_v168
  pointwise
  rw [v167_at]
  simp only [v110_at]
  refine rot_congr _ (fun j => nrm_congr _ (fun i => prj_congr x w (by dsimp only; (try omega)) (by dsimp only; (try omega))) rfl j) (by dsimp only; (try omega))

theorem ref_wq (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (b : ℕ) (d : Fin 128) (hn : n.val = b + d.val) (hb : b % 128 = 0) (h0 : 1536 ≤ b) (h : b + 128 ≤ 2560) :
    val_main_v231 (F := Ideal) x w x2 x3 x4 x5 x6 x7 (ix2 r n)
      = nrm (Ideal.ofBits .f32 0x43000000#32) (fun j => prj x w r ⟨4416 + (b - 1536 + j.val), by omega⟩) (x4 (ix1 d)) d := by
  unfold val_main_v231 val_main_v230
  pointwise
  split_ifs <;> first | omega | skip
  unfold val_main_v183
  pointwise
  rw [v182_at]
  refine nrm_at_congr _ (fun i => prj_congr x w (by dsimp only; (try omega)) (by dsimp only; (try omega))) x4 (by dsimp only; (try omega))

theorem ref_wk (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (b : ℕ) (d : Fin 128) (hn : n.val = b + d.val) (hb : b % 128 = 0) (h0 : 2560 ≤ b) (h : b + 128 ≤ 2816) :
    val_main_v231 (F := Ideal) x w x2 x3 x4 x5 x6 x7 (ix2 r n)
      = nrm (Ideal.ofBits .f32 0x43000000#32) (fun j => prj x w r ⟨5440 + (b - 2560 + j.val), by omega⟩) (x5 (ix1 d)) d := by
  unfold val_main_v231 val_main_v230
  pointwise
  split_ifs <;> first | omega | skip
  unfold val_main_v198
  pointwise
  rw [v197_at]
  refine nrm_at_congr _ (fun i => prj_congr x w (by dsimp only; (try omega)) (by dsimp only; (try omega))) x5 (by dsimp only; (try omega))

theorem ref_av (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (d : Fin 256) (hn : n.val = 1280 + d.val) :
    val_main_v231 (F := Ideal) x w x2 x3 x4 x5 x6 x7 (ix2 r n) = prj x w r ⟨3136 + d.val, by omega⟩ := by
  unfold val_main_v231 val_main_v230
  pointwise
  split_ifs <;> first | omega | skip
  unfold prj dotP
  pointwise [val_main_v228, val_main_v9, val_main_v2, val_main_v1, val_main_v0]
  refine Finset.sum_congr rfl fun k _ => Ideal.mul_congr ?_ ?_
  · exact congrArg (fun i => x (ix2 i k)) (Fin.ext (by dsimp only; (try omega)))
  · exact congrArg (fun i => w (ix2 k i)) (Fin.ext (by dsimp only; (try omega)))

theorem ref_wv (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (d : Fin 256) (hn : n.val = 2816 + d.val) :
    val_main_v231 (F := Ideal) x w x2 x3 x4 x5 x6 x7 (ix2 r n) = prj x w r ⟨5696 + d.val, by omega⟩ := by
  unfold val_main_v231 val_main_v230
  pointwise
  split_ifs <;> first | omega | skip
  unfold prj dotP
  pointwise [val_main_v229, val_main_v13, val_main_v2, val_main_v1, val_main_v0]
  refine Finset.sum_congr rfl fun k _ => Ideal.mul_congr ?_ ?_
  · exact congrArg (fun i => x (ix2 i k)) (Fin.ext (by dsimp only; (try omega)))
  · exact congrArg (fun i => w (ix2 k i)) (Fin.ext (by dsimp only; (try omega)))

theorem ref_cq (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (d : Fin 512) (hn : n.val = 3072 + d.val) :
    val_main_v231 (F := Ideal) x w x2 x3 x4 x5 x6 x7 (ix2 r n)
      = nrm (Ideal.ofBits .f32 0x44000000#32) (fun j => prj x w r ⟨0 + j.val, by omega⟩) (x6 (ix1 d)) d := by
  unfold val_main_v231 val_main_v230
  pointwise
  split_ifs <;> first | omega | skip
  unfold val_main_v212
  pointwise
  rw [v211_at]
  exact nrm_at_congr _ (fun i => prj_congr x w (by dsimp only; (try omega)) (by dsimp only; (try omega))) x6 (by dsimp only; (try omega))

theorem ref_ckv (x : FVec Ideal S32768x2048 .bf16) (w : FVec Ideal S2048x13120 .f32) (x2 : FVec Ideal S128 .f32) (x3 : FVec Ideal S128 .f32) (x4 : FVec Ideal S128 .f32) (x5 : FVec Ideal S128 .f32) (x6 : FVec Ideal S512 .f32) (x7 : FVec Ideal S256 .f32)
    (r : Fin 32768) (n : Fin 3840) (d : Fin 256) (hn : n.val = 3584 + d.val) :
    val_main_v231 (F := Ideal) x w x2 x3 x4 x5 x6 x7 (ix2 r n)
      = nrm (Ideal.ofBits .f32 0x43800000#32) (fun j => prj x w r ⟨512 + j.val, by omega⟩) (x7 (ix1 d)) d := by
  unfold val_main_v231 val_main_v230
  pointwise
  split_ifs <;> first | omega | skip
  unfold val_main_v226
  pointwise
  rw [v225_at]
  exact nrm_at_congr _ (fun i => prj_congr x w (by dsimp only; (try omega)) (by dsimp only; (try omega))) x7 (by dsimp only; (try omega))

theorem ref_kr (x : FVec Ideal S32768x2048 .bf16) (w : FVec Ideal S2048x13120 .f32) (r : Fin 32768) (d : Fin 128) :
    val_main_v236 (F := Ideal) x w (ix2 r d) = prj x w r ⟨768 + (d.val / 64 * 32 + d.val % 32), by omega⟩ := by
  unfold val_main_v236 prj dotP
  pointwise [val_main_v235, val_main_v234, val_main_v233, val_main_v232, val_main_v227, val_main_v5, val_main_v2, val_main_v1, val_main_v0]
  split_ifs <;> first | omega | skip
  all_goals refine Finset.sum_congr rfl fun k _ => Ideal.mul_congr ?_ ?_
  all_goals first
    | exact congrArg (fun i => x (ix2 i k)) (Fin.ext (by dsimp only; (try omega)))
    | exact congrArg (fun i => w (ix2 k i)) (Fin.ext (by dsimp only; (try omega)))

end Qkv
-- ==== Proof.QkvHost.lean ====
module

public import proofs.«01_k».proof.Proof.Gen.QkvIdeal.Value
public import proofs.«01_k».proof.Proof.QkvRef
public import proofs.«01_k».proof.Proof.Gate
public import Idealize.ShloMosaic.Lib.Pipeline.ValueKit
public import Idealize.ShloMosaic.Lib.Pointwise
public import Idealize.ShloMosaic.Lib.StableHlo.RunRead

@[expose] public section

set_option maxRecDepth 16384

namespace Qkv
open Cert.QkvIdeal Cert.QkvIdeal.Gen Idealize.ShloMosaic Idealize.ShloMosaic.TcCoe Idealize.SL.Sem
open Cert.QkvRefIdeal.Read

/-- Where a column of the layout's heads, in the order of `lane`, stands among the heads. -/
def pairQ (q : ℕ) : ℕ := q / 128 * 128 + q / 32 % 2 * 64 + q / 64 % 2 * 32 + q % 32

/-- The column of the weight that a column of the layout comes from. -/
def srcQ (n : Fin 3968) : Fin 13120 :=
  ⟨if n.val < 1024 then 1856 + pairQ n.val else if n.val < 1280 then 2880 + pairQ (n.val - 1024) else if n.val < 1536 then 3136 + (n.val - 1280)
    else if n.val < 2560 then 4416 + (n.val - 1536) else if n.val < 2816 then 5440 + (n.val - 2560) else if n.val < 3072 then 5696 + (n.val - 2816)
    else if n.val < 3584 then n.val - 3072 else if n.val < 3840 then 512 + (n.val - 3584) else 768 + ((n.val - 3840) / 64 * 32 + (n.val - 3840) % 32),
    by unfold pairQ; split_ifs <;> omega⟩

variable (m : (ℓ : Loc nD τ sig) → Buf (Elt Ideal) ℓ)

/-- A position inside the first piece of a concatenation along the columns is read there. -/
theorem hit {α : Type} {M N w : ℕ} (x : (⟨2, ![M, w]⟩ : Shape).Idx → α) (q : (s : Shape) × (s.Idx → α)) (xs : List ((s : Shape) × (s.Idx → α)))
    (k : Fin M) (n : Fin N) (hs : ∀ s' ∈ (⟨⟨2, ![M, w]⟩, x⟩ :: q :: xs : List ((s : Shape) × (s.Idx → α))).map (·.1), s'.FitsOff ⟨2, ![M, N]⟩ 1) {c : ℕ}
    (hc : c < (axisSizes ⟨2, ![M, N]⟩ 1 (⟨⟨2, ![M, w]⟩, x⟩ :: q :: xs)).sum) (h : c < w) :
    concatenateAt ⟨2, ![M, N]⟩ 1 (ix2 k n) (⟨⟨2, ![M, w]⟩, x⟩ :: q :: xs) hs c hc = x (ix2 k ⟨c, h⟩) := by
  rw [concatenateAt_cons]
  refine (dif_pos h).trans ?_
  refine congrArg x (funext fun a => Fin.ext ?_)
  match a with
  | ⟨0, _⟩ => rfl
  | ⟨1, _⟩ => rfl

/-- The columns of the weight's layout that the projection reads, piece by piece. -/
theorem cat_w (x0 : FVec Ideal S2048x1024 .f32) (x1 : FVec Ideal S2048x256 .f32) (x2 : FVec Ideal S2048x256 .f32) (x3 : FVec Ideal S2048x1024 .f32) (x4 : FVec Ideal S2048x256 .f32) (x5 : FVec Ideal S2048x256 .f32) (x6 : FVec Ideal S2048x512 .f32) (x7 : FVec Ideal S2048x256 .f32) (x8 : FVec Ideal S2048x128 .f32) (x9 : FVec Ideal S2048x2176 .f32) (x10 : FVec Ideal S2048x1024 .f32) (x11 : FVec Ideal S2048x1024 .f32) (x12 : FVec Ideal S2048x1024 .f32) (x13 : FVec Ideal S2048x2048 .f32) (x14 : FVec Ideal S2048x2048 .f32) (x15 : FVec Ideal S2048x2048 .f32) (w : FVec Ideal S2048x13120 .f32)
    (k : Fin 2048) (n : Fin 3968)
    (e0 : ∀ j : Fin 1024, x0 (ix2 k j) = w (ix2 k ⟨1856 + pairQ j.val, by unfold pairQ; omega⟩))
    (e1 : ∀ j : Fin 256, x1 (ix2 k j) = w (ix2 k ⟨2880 + pairQ j.val, by unfold pairQ; omega⟩))
    (e2 : ∀ j : Fin 256, x2 (ix2 k j) = w (ix2 k ⟨3136 + j.val, by omega⟩))
    (e3 : ∀ j : Fin 1024, x3 (ix2 k j) = w (ix2 k ⟨4416 + j.val, by omega⟩))
    (e4 : ∀ j : Fin 256, x4 (ix2 k j) = w (ix2 k ⟨5440 + j.val, by omega⟩))
    (e5 : ∀ j : Fin 256, x5 (ix2 k j) = w (ix2 k ⟨5696 + j.val, by omega⟩))
    (e6 : ∀ j : Fin 512, x6 (ix2 k j) = w (ix2 k ⟨j.val, by omega⟩))
    (e7 : ∀ j : Fin 256, x7 (ix2 k j) = w (ix2 k ⟨512 + j.val, by omega⟩))
    (e8 : ∀ j : Fin 128, x8 (ix2 k j) = w (ix2 k ⟨768 + (j.val / 64 * 32 + j.val % 32), by omega⟩)) :
    concatenate S2048x15360 1 [⟨S2048x1024, x0⟩, ⟨S2048x256, x1⟩, ⟨S2048x256, x2⟩, ⟨S2048x1024, x3⟩, ⟨S2048x256, x4⟩, ⟨S2048x256, x5⟩, ⟨S2048x512, x6⟩, ⟨S2048x256, x7⟩, ⟨S2048x128, x8⟩, ⟨S2048x2176, x9⟩, ⟨S2048x1024, x10⟩, ⟨S2048x1024, x11⟩, ⟨S2048x1024, x12⟩, ⟨S2048x2048, x13⟩, ⟨S2048x2048, x14⟩, ⟨S2048x2048, x15⟩] concatenates_S2048x1024_S2048x256_S2048x256_S2048x1024_S2048x256_S2048x256_S2048x512_S2048x256_S2048x128_S2048x2176_S2048x1024_S2048x1024_S2048x1024_S2048x2048_S2048x2048_S2048x2048_S2048x15360_d1 (ix2 k ⟨n.val, by omega⟩)
      = w (ix2 k (srcQ n)) := by
  rw [concatenate_apply]
  by_cases h0 : n.val < 1024
  · refine (hit _ _ _ _ _ _ _ (show n.val < 1024 by omega)).trans ((e0 _).trans (congrArg (fun i => w (ix2 k i)) (Fin.ext ?_)))
    unfold srcQ
    simp only [if_pos h0]
  refine (Gate.skip (c' := n.val - 1024) _ _ _ _ _ _ _ (show 1024 + (n.val - 1024) = n.val by omega)).trans ?_
  by_cases h1 : n.val < 1280
  · refine (hit _ _ _ _ _ _ _ (show n.val - 1024 < 256 by omega)).trans ((e1 _).trans (congrArg (fun i => w (ix2 k i)) (Fin.ext ?_)))
    unfold srcQ
    simp only [if_neg h0, if_pos h1]
  refine (Gate.skip (c' := n.val - 1280) _ _ _ _ _ _ _ (show 256 + (n.val - 1280) = n.val - 1024 by omega)).trans ?_
  by_cases h2 : n.val < 1536
  · refine (hit _ _ _ _ _ _ _ (show n.val - 1280 < 256 by omega)).trans ((e2 _).trans (congrArg (fun i => w (ix2 k i)) (Fin.ext ?_)))
    unfold srcQ
    simp only [if_neg h0, if_neg h1, if_pos h2]
  refine (Gate.skip (c' := n.val - 1536) _ _ _ _ _ _ _ (show 256 + (n.val - 1536) = n.val - 1280 by omega)).trans ?_
  by_cases h3 : n.val < 2560
  · refine (hit _ _ _ _ _ _ _ (show n.val - 1536 < 1024 by omega)).trans ((e3 _).trans (congrArg (fun i => w (ix2 k i)) (Fin.ext ?_)))
    unfold srcQ
    simp only [if_neg h0, if_neg h1, if_neg h2, if_pos h3]
  refine (Gate.skip (c' := n.val - 2560) _ _ _ _ _ _ _ (show 1024 + (n.val - 2560) = n.val - 1536 by omega)).trans ?_
  by_cases h4 : n.val < 2816
  · refine (hit _ _ _ _ _ _ _ (show n.val - 2560 < 256 by omega)).trans ((e4 _).trans (congrArg (fun i => w (ix2 k i)) (Fin.ext ?_)))
    unfold srcQ
    simp only [if_neg h0, if_neg h1, if_neg h2, if_neg h3, if_pos h4]
  refine (Gate.skip (c' := n.val - 2816) _ _ _ _ _ _ _ (show 256 + (n.val - 2816) = n.val - 2560 by omega)).trans ?_
  by_cases h5 : n.val < 3072
  · refine (hit _ _ _ _ _ _ _ (show n.val - 2816 < 256 by omega)).trans ((e5 _).trans (congrArg (fun i => w (ix2 k i)) (Fin.ext ?_)))
    unfold srcQ
    simp only [if_neg h0, if_neg h1, if_neg h2, if_neg h3, if_neg h4, if_pos h5]
  refine (Gate.skip (c' := n.val - 3072) _ _ _ _ _ _ _ (show 256 + (n.val - 3072) = n.val - 2816 by omega)).trans ?_
  by_cases h6 : n.val < 3584
  · refine (hit _ _ _ _ _ _ _ (show n.val - 3072 < 512 by omega)).trans ((e6 _).trans (congrArg (fun i => w (ix2 k i)) (Fin.ext ?_)))
    unfold srcQ
    simp only [if_neg h0, if_neg h1, if_neg h2, if_neg h3, if_neg h4, if_neg h5, if_pos h6]
  refine (Gate.skip (c' := n.val - 3584) _ _ _ _ _ _ _ (show 512 + (n.val - 3584) = n.val - 3072 by omega)).trans ?_
  by_cases h7 : n.val < 3840
  · refine (hit _ _ _ _ _ _ _ (show n.val - 3584 < 256 by omega)).trans ((e7 _).trans (congrArg (fun i => w (ix2 k i)) (Fin.ext ?_)))
    unfold srcQ
    simp only [if_neg h0, if_neg h1, if_neg h2, if_neg h3, if_neg h4, if_neg h5, if_neg h6, if_pos h7]
  refine (Gate.skip (c' := n.val - 3840) _ _ _ _ _ _ _ (show 256 + (n.val - 3840) = n.val - 3584 by omega)).trans ?_
  refine (hit _ _ _ _ _ _ _ (show n.val - 3840 < 128 by omega)).trans ((e8 _).trans (congrArg (fun i => w (ix2 k i)) (Fin.ext ?_)))
  unfold srcQ
  simp only [if_neg h0, if_neg h1, if_neg h2, if_neg h3, if_neg h4, if_neg h5, if_neg h6, if_neg h7]

/-- The columns of the weight the projection is given. -/
theorem col_at (c : Dev nD) (k : Fin 2048) (n : Fin 3968) :
    V m c main_v27 (ix2 k ⟨n.val, by omega⟩) = m ((c : Thread nD τ).loc main_arg1) (ix2 k (srcQ n)) := by
  show StableHlo.after hostOps0 _ (Proc.devRef .tc main_v27) _ = _
  after_reads_simp
  refine cat_w _ _ _ _ _ _ _ _ _ _ _ _ _ _ _ _ (m ((c : Thread nD τ).loc main_arg1)) k n ?_ ?_ ?_ ?_ ?_ ?_ ?_ ?_ ?_
  · intro j
    show StableHlo.upto (hostOps0 (F := Ideal)) _ 27 (Proc.devRef .tc main_v17) _ = _
    after_reads_simp
    unfold pairQ
    pointwise
  · intro j
    show StableHlo.upto (hostOps0 (F := Ideal)) _ 27 (Proc.devRef .tc main_v20) _ = _
    after_reads_simp
    unfold pairQ
    pointwise
  · intro j
    show StableHlo.upto (hostOps0 (F := Ideal)) _ 27 (Proc.devRef .tc main_v6) _ = _
    after_reads_simp
    pointwise
  · intro j
    show StableHlo.upto (hostOps0 (F := Ideal)) _ 27 (Proc.devRef .tc main_v8) _ = _
    after_reads_simp
    pointwise
  · intro j
    show StableHlo.upto (hostOps0 (F := Ideal)) _ 27 (Proc.devRef .tc main_v9) _ = _
    after_reads_simp
    pointwise
  · intro j
    show StableHlo.upto (hostOps0 (F := Ideal)) _ 27 (Proc.devRef .tc main_v10) _ = _
    after_reads_simp
    pointwise
  · intro j
    show StableHlo.upto (hostOps0 (F := Ideal)) _ 27 (Proc.devRef .tc main_v0) _ = _
    after_reads_simp
    pointwise
  · intro j
    show StableHlo.upto (hostOps0 (F := Ideal)) _ 27 (Proc.devRef .tc main_v1) _ = _
    after_reads_simp
    pointwise
  · intro j
    show StableHlo.upto (hostOps0 (F := Ideal)) _ 27 (Proc.devRef .tc main_v24) _ = _
    after_reads_simp
    pointwise
    split_ifs
    all_goals after_reads_simp
    all_goals pointwise
    all_goals exact congrArg (fun i => m ((c : Thread nD τ).loc main_arg1) (ix2 k i)) (Fin.ext (by dsimp only; omega))

/-- The gains' row, piece by piece. -/
theorem cat_g (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n)
      = if h0 : n.val < 1024 then x0 (ix1 ⟨n.val, by omega⟩)
      else if h1 : n.val - 1024 < 256 then x1 (ix1 ⟨n.val - 1024, by omega⟩)
      else if h2 : n.val - 1024 - 256 < 256 then x2 (ix1 ⟨n.val - 1024 - 256, by omega⟩)
      else if h3 : n.val - 1024 - 256 - 256 < 1024 then x3 (ix1 ⟨n.val - 1024 - 256 - 256, by omega⟩)
      else if h4 : n.val - 1024 - 256 - 256 - 1024 < 256 then x4 (ix1 ⟨n.val - 1024 - 256 - 256 - 1024, by omega⟩)
      else if h5 : n.val - 1024 - 256 - 256 - 1024 - 256 < 256 then x5 (ix1 ⟨n.val - 1024 - 256 - 256 - 1024 - 256, by omega⟩)
      else if h6 : n.val - 1024 - 256 - 256 - 1024 - 256 - 256 < 512 then x6 (ix1 ⟨n.val - 1024 - 256 - 256 - 1024 - 256 - 256, by omega⟩)
      else x7 (ix1 ⟨n.val - 1024 - 256 - 256 - 1024 - 256 - 256 - 512, by omega⟩) := by
  pointwise

theorem cat_g0 (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) (q : Fin 1024) (hq : n.val = 0 + q.val) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n) = x0 (ix1 q) := by
  refine (cat_g _ _ _ _ _ _ _ _ n).trans ?_
  simp only [dif_pos (show n.val < 1024 by omega)]
  exact congrArg (fun i => x0 (ix1 i)) (Fin.ext (by dsimp only; (try omega)))

theorem cat_g1 (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) (q : Fin 256) (hq : n.val = 1024 + q.val) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n) = x1 (ix1 q) := by
  refine (cat_g _ _ _ _ _ _ _ _ n).trans ?_
  simp only [dif_neg (show ¬ n.val < 1024 by omega), dif_pos (show n.val - 1024 < 256 by omega)]
  exact congrArg (fun i => x1 (ix1 i)) (Fin.ext (by dsimp only; (try omega)))

theorem cat_g3 (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) (q : Fin 1024) (hq : n.val = 1536 + q.val) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n) = x3 (ix1 q) := by
  refine (cat_g _ _ _ _ _ _ _ _ n).trans ?_
  simp only [dif_neg (show ¬ n.val < 1024 by omega), dif_neg (show ¬ n.val - 1024 < 256 by omega), dif_neg (show ¬ n.val - 1024 - 256 < 256 by omega), dif_pos (show n.val - 1024 - 256 - 256 < 1024 by omega)]
  exact congrArg (fun i => x3 (ix1 i)) (Fin.ext (by dsimp only; (try omega)))

theorem cat_g4 (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) (q : Fin 256) (hq : n.val = 2560 + q.val) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n) = x4 (ix1 q) := by
  refine (cat_g _ _ _ _ _ _ _ _ n).trans ?_
  simp only [dif_neg (show ¬ n.val < 1024 by omega), dif_neg (show ¬ n.val - 1024 < 256 by omega), dif_neg (show ¬ n.val - 1024 - 256 < 256 by omega), dif_neg (show ¬ n.val - 1024 - 256 - 256 < 1024 by omega), dif_pos (show n.val - 1024 - 256 - 256 - 1024 < 256 by omega)]
  exact congrArg (fun i => x4 (ix1 i)) (Fin.ext (by dsimp only; (try omega)))

theorem cat_g6 (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) (q : Fin 512) (hq : n.val = 3072 + q.val) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n) = x6 (ix1 q) := by
  refine (cat_g _ _ _ _ _ _ _ _ n).trans ?_
  simp only [dif_neg (show ¬ n.val < 1024 by omega), dif_neg (show ¬ n.val - 1024 < 256 by omega), dif_neg (show ¬ n.val - 1024 - 256 < 256 by omega), dif_neg (show ¬ n.val - 1024 - 256 - 256 < 1024 by omega), dif_neg (show ¬ n.val - 1024 - 256 - 256 - 1024 < 256 by omega), dif_neg (show ¬ n.val - 1024 - 256 - 256 - 1024 - 256 < 256 by omega), dif_pos (show n.val - 1024 - 256 - 256 - 1024 - 256 - 256 < 512 by omega)]
  exact congrArg (fun i => x6 (ix1 i)) (Fin.ext (by dsimp only; (try omega)))

theorem cat_g7 (x0 : FVec Ideal S1024 .f32) (x1 : FVec Ideal S256 .f32) (x2 : FVec Ideal S256 .f32) (x3 : FVec Ideal S1024 .f32) (x4 : FVec Ideal S256 .f32) (x5 : FVec Ideal S256 .f32) (x6 : FVec Ideal S512 .f32) (x7 : FVec Ideal S256 .f32) (n : Fin 3840) (q : Fin 256) (hq : n.val = 3584 + q.val) :
    (shapeCast S1x3840 (concatenate S3840 0 [⟨S1024, x0⟩, ⟨S256, x1⟩, ⟨S256, x2⟩, ⟨S1024, x3⟩, ⟨S256, x4⟩, ⟨S256, x5⟩, ⟨S512, x6⟩, ⟨S256, x7⟩] concatenates_S1024_S256_S256_S1024_S256_S256_S512_S256_S3840_d0) shapeCasts_S3840_S1x3840 : FVec Ideal S1x3840 .f32) (ix2 0 n) = x7 (ix1 q) := by
  refine (cat_g _ _ _ _ _ _ _ _ n).trans ?_
  simp only [dif_neg (show ¬ n.val < 1024 by omega), dif_neg (show ¬ n.val - 1024 < 256 by omega), dif_neg (show ¬ n.val - 1024 - 256 < 256 by omega), dif_neg (show ¬ n.val - 1024 - 256 - 256 < 1024 by omega), dif_neg (show ¬ n.val - 1024 - 256 - 256 - 1024 < 256 by omega), dif_neg (show ¬ n.val - 1024 - 256 - 256 - 1024 - 256 < 256 by omega), dif_neg (show ¬ n.val - 1024 - 256 - 256 - 1024 - 256 - 256 < 512 by omega)]
  exact congrArg (fun i => x7 (ix1 i)) (Fin.ext (by dsimp only; (try omega)))

theorem gain_aq (c : Dev nD) (n : Fin 3840) (b : ℕ) (j : Fin 128) (hn : n.val = b + j.val) (hb : b % 128 = 0) (h : b + 128 ≤ 1024) :
    V m c main_v48 (ix2 0 n) = m ((c : Thread nD τ).loc main_arg2) (ix1 (lane j)) := by
  show StableHlo.after hostOps0 _ (Proc.devRef .tc main_v48) _ = _
  after_reads_simp
  refine (cat_g0 _ _ _ _ _ _ _ _ n ⟨n.val - 0, by omega⟩ (by dsimp only; (try omega))).trans ?_
  show StableHlo.upto (hostOps0 (F := Ideal)) _ 49 (Proc.devRef .tc main_v34) _ = _
  after_reads_simp
  pointwise
  exact congrArg (fun i => m ((c : Thread nD τ).loc main_arg2) (ix1 i)) (Fin.ext (by unfold lane; dsimp only; (try omega)))

theorem gain_ak (c : Dev nD) (n : Fin 3840) (b : ℕ) (j : Fin 128) (hn : n.val = b + j.val) (hb : b % 128 = 0) (h0 : 1024 ≤ b) (h : b + 128 ≤ 1280) :
    V m c main_v48 (ix2 0 n) = m ((c : Thread nD τ).loc main_arg3) (ix1 (lane j)) := by
  show StableHlo.after hostOps0 _ (Proc.devRef .tc main_v48) _ = _
  after_reads_simp
  refine (cat_g1 _ _ _ _ _ _ _ _ n ⟨n.val - 1024, by omega⟩ (by dsimp only; (try omega))).trans ?_
  show StableHlo.upto (hostOps0 (F := Ideal)) _ 49 (Proc.devRef .tc main_v40) _ = _
  after_reads_simp
  pointwise
  exact congrArg (fun i => m ((c : Thread nD τ).loc main_arg3) (ix1 i)) (Fin.ext (by unfold lane; dsimp only; (try omega)))

theorem gain_wq (c : Dev nD) (n : Fin 3840) (b : ℕ) (j : Fin 128) (hn : n.val = b + j.val) (hb : b % 128 = 0) (h0 : 1536 ≤ b) (h : b + 128 ≤ 2560) :
    V m c main_v48 (ix2 0 n) = m ((c : Thread nD τ).loc main_arg4) (ix1 j) := by
  show StableHlo.after hostOps0 _ (Proc.devRef .tc main_v48) _ = _
  after_reads_simp
  refine (cat_g3 _ _ _ _ _ _ _ _ n ⟨n.val - 1536, by omega⟩ (by dsimp only; (try omega))).trans ?_
  show StableHlo.upto (hostOps0 (F := Ideal)) _ 49 (Proc.devRef .tc main_v43) _ = _
  after_reads_simp
  pointwise
  exact congrArg (fun i => m ((c : Thread nD τ).loc main_arg4) (ix1 i)) (Fin.ext (by dsimp only; (try omega)))

theorem gain_wk (c : Dev nD) (n : Fin 3840) (b : ℕ) (j : Fin 128) (hn : n.val = b + j.val) (hb : b % 128 = 0) (h0 : 2560 ≤ b) (h : b + 128 ≤ 2816) :
    V m c main_v48 (ix2 0 n) = m ((c : Thread nD τ).loc main_arg5) (ix1 j) := by
  show StableHlo.after hostOps0 _ (Proc.devRef .tc main_v48) _ = _
  after_reads_simp
  refine (cat_g4 _ _ _ _ _ _ _ _ n ⟨n.val - 2560, by omega⟩ (by dsimp only; (try omega))).trans ?_
  show StableHlo.upto (hostOps0 (F := Ideal)) _ 49 (Proc.devRef .tc main_v46) _ = _
  after_reads_simp
  pointwise
  exact congrArg (fun i => m ((c : Thread nD τ).loc main_arg5) (ix1 i)) (Fin.ext (by dsimp only; (try omega)))

theorem gain_cq (c : Dev nD) (n : Fin 3840) (j : Fin 512) (hn : n.val = 3072 + j.val) :
    V m c main_v48 (ix2 0 n) = m ((c : Thread nD τ).loc main_arg6) (ix1 j) := by
  show StableHlo.after hostOps0 _ (Proc.devRef .tc main_v48) _ = _
  after_reads_simp
  refine (cat_g6 _ _ _ _ _ _ _ _ n j (by exact hn)).trans ?_
  show StableHlo.upto (hostOps0 (F := Ideal)) _ 49 (Proc.devRef .tc main_arg6) _ = _
  after_reads_simp

theorem gain_ckv (c : Dev nD) (n : Fin 3840) (j : Fin 256) (hn : n.val = 3584 + j.val) :
    V m c main_v48 (ix2 0 n) = m ((c : Thread nD τ).loc main_arg7) (ix1 j) := by
  show StableHlo.after hostOps0 _ (Proc.devRef .tc main_v48) _ = _
  after_reads_simp
  refine (cat_g7 _ _ _ _ _ _ _ _ n j (by exact hn)).trans ?_
  show StableHlo.upto (hostOps0 (F := Ideal)) _ 49 (Proc.devRef .tc main_arg7) _ = _
  after_reads_simp

theorem cat_c (x y : FVec Ideal S4096x32 .f32) (s : Fin 4096) (d : Fin 128) :
    (concatenate S4096x128 1 [⟨S4096x64, concatenate S4096x64 1 [⟨S4096x32, x⟩, ⟨S4096x32, y⟩] concatenates_S4096x32_S4096x32_S4096x64_d1⟩, ⟨S4096x64, concatenate S4096x64 1 [⟨S4096x32, x⟩, ⟨S4096x32, y⟩] concatenates_S4096x32_S4096x32_S4096x64_d1⟩] concatenates_S4096x64_S4096x64_S4096x128_d1 : FVec Ideal S4096x128 .f32) (ix2 s d)
      = if d.val / 32 % 2 = 0 then x (ix2 s ⟨d.val % 32, by omega⟩) else y (ix2 s ⟨d.val % 32, by omega⟩) := by
  pointwise
  have hd := d.isLt
  by_cases hq : d.val / 32 % 2 = 0
  · simp only [if_pos hq]
    split_ifs <;> first | omega | exact congrArg (fun i => x (ix2 s i)) (Fin.ext (by dsimp only; (try omega))) | exact congrArg (fun i => y (ix2 s i)) (Fin.ext (by dsimp only; (try omega)))
  · simp only [if_neg hq]
    split_ifs <;> first | omega | exact congrArg (fun i => x (ix2 s i)) (Fin.ext (by dsimp only; (try omega))) | exact congrArg (fun i => y (ix2 s i)) (Fin.ext (by dsimp only; (try omega)))

theorem cat_s (x y : FVec Ideal S4096x32 .f32) (s : Fin 4096) (d : Fin 128) :
    (concatenate S4096x128 1 [⟨S4096x64, Host.negf (concatenate S4096x64 1 [⟨S4096x32, x⟩, ⟨S4096x32, y⟩] concatenates_S4096x32_S4096x32_S4096x64_d1)⟩, ⟨S4096x64, concatenate S4096x64 1 [⟨S4096x32, x⟩, ⟨S4096x32, y⟩] concatenates_S4096x32_S4096x32_S4096x64_d1⟩] concatenates_S4096x64_S4096x64_S4096x128_d1 : FVec Ideal S4096x128 .f32) (ix2 s d)
      = if d.val < 64 then -(if d.val / 32 % 2 = 0 then x (ix2 s ⟨d.val % 32, by omega⟩) else y (ix2 s ⟨d.val % 32, by omega⟩))
        else if d.val / 32 % 2 = 0 then x (ix2 s ⟨d.val % 32, by omega⟩) else y (ix2 s ⟨d.val % 32, by omega⟩) := by
  pointwise
  have hd := d.isLt
  by_cases hq : d.val / 32 % 2 = 0
  · simp only [if_pos hq]
    split_ifs <;> first | omega | exact congrArg (fun i => x (ix2 s i)) (Fin.ext (by dsimp only; (try omega))) | exact congrArg (fun i => y (ix2 s i)) (Fin.ext (by dsimp only; (try omega))) | exact congrArg (fun i => -(x (ix2 s i))) (Fin.ext (by dsimp only; (try omega))) | exact congrArg (fun i => -(y (ix2 s i))) (Fin.ext (by dsimp only; (try omega)))
  · simp only [if_neg hq]
    split_ifs <;> first | omega | exact congrArg (fun i => x (ix2 s i)) (Fin.ext (by dsimp only; (try omega))) | exact congrArg (fun i => y (ix2 s i)) (Fin.ext (by dsimp only; (try omega))) | exact congrArg (fun i => -(x (ix2 s i))) (Fin.ext (by dsimp only; (try omega))) | exact congrArg (fun i => -(y (ix2 s i))) (Fin.ext (by dsimp only; (try omega)))

theorem c72 (c : Dev nD) : StableHlo.upto (hostOps0 (F := Ideal)) (fun b => m (c, b)) 78 (Proc.devRef .tc main_v72) = Cert.QkvRefIdeal.Read.val_main_v51 (F := Ideal) := by
  after_reads_simp
  rfl

theorem c73 (c : Dev nD) : StableHlo.upto (hostOps0 (F := Ideal)) (fun b => m (c, b)) 78 (Proc.devRef .tc main_v73) = Cert.QkvRefIdeal.Read.val_main_v79 (F := Ideal) := by
  after_reads_simp
  rfl

theorem c75 (c : Dev nD) : StableHlo.upto (hostOps0 (F := Ideal)) (fun b => m (c, b)) 81 (Proc.devRef .tc main_v75) = Cert.QkvRefIdeal.Read.val_main_v53 (F := Ideal) := by
  after_reads_simp
  rfl

theorem c76 (c : Dev nD) : StableHlo.upto (hostOps0 (F := Ideal)) (fun b => m (c, b)) 81 (Proc.devRef .tc main_v76) = Cert.QkvRefIdeal.Read.val_main_v81 (F := Ideal) := by
  after_reads_simp
  rfl

/-- The cosines the host prepares. -/
theorem cos_at (c : Dev nD) (s : Fin 4096) (d : Fin 128) : V m c main_v78 (ix2 s d) = cosL s d := by
  show StableHlo.after hostOps0 _ (Proc.devRef .tc main_v78) _ = _
  after_reads_simp
  refine (cat_c _ _ s d).trans ?_
  unfold cosL
  split_ifs
  · exact congrFun (c72 m c) _
  · exact congrFun (c73 m c) _

/-- The signed sines the host prepares. -/
theorem sin_at (c : Dev nD) (s : Fin 4096) (d : Fin 128) : V m c main_v80 (ix2 s d) = sinL s d := by
  show StableHlo.after hostOps0 _ (Proc.devRef .tc main_v80) _ = _
  after_reads_simp
  refine (cat_s _ _ s d).trans ?_
  unfold sinL
  split_ifs
  · exact congrArg Neg.neg (congrFun (c75 m c) _)
  · exact congrArg Neg.neg (congrFun (c76 m c) _)
  · exact congrFun (c75 m c) _
  · exact congrFun (c76 m c) _

end Qkv
-- ==== Proof.QkvLeaf.lean ====
module

public import proofs.«01_k».proof.Proof.QkvHost

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

theorem lane_lane : ∀ j : Fin 128, lane (lane j) = j := by decide +kernel

/-- Putting the lanes in order moves a norm's entries and nothing else. -/
theorem nrm_lane (N : EReal) (f : Fin 128 → EReal) (g : EReal) (d : Fin 128) :
    nrm N (fun j => f (lane j)) g d = nrm N f g (lane d) := by
  exact congrArg (fun t => f (lane d) * Ideal.rsqrt (Ideal.div t N + Ideal.ofBits .f32 0x358637BD#32) * g)
    (Equiv.sum_comp (⟨lane, lane, lane_lane, lane_lane⟩ : Fin 128 ≃ Fin 128) fun j => f j * f j)

theorem dot_prj (x : FVec Ideal S32768x2048 .bf16) (w : FVec Ideal S2048x13120 .f32) (f v : Fin 2048 → EReal) (r : Fin 32768) (q : Fin 13120)
    (hf : ∀ k, f k = x (ix2 r k)) (hv : ∀ k, v k = w (ix2 k q)) : dotP f v = prj x w r q := by
  unfold prj
  rw [show f = _ from funext hf, show v = _ from funext hv]

variable (x : FVec Ideal S32768x2048 .bf16) (w : FVec Ideal S2048x13120 .f32) (x2 : FVec Ideal S128 .f32) (x3 : FVec Ideal S128 .f32)
  (x4 : FVec Ideal S128 .f32) (x5 : FVec Ideal S128 .f32) (x6 : FVec Ideal S512 .f32) (x7 : FVec Ideal S256 .f32)

/-- Half a tile is the projection's entries at the columns the tile's weights come from. -/
theorem head0_prj (f : Vec Ideal S256x2048 .bf16) (v : Vec Ideal S2048x256 .bf16) (r : Fin 32768) (a : Fin 256) (q : Fin 128 → Fin 13120)
    (hf : ∀ k, f (ix2 a k) = x (ix2 r k)) (hv : ∀ k (j : Fin 128), v (ix2 k ⟨j, by omega⟩) = w (ix2 k (q j))) (j : Fin 128) :
    head0 f v (ix2 a j) = prj x w r (q j) := (head0_at f v a j).trans (dot_prj x w _ _ r _ hf fun k => hv k j)

theorem head1_prj (f : Vec Ideal S256x2048 .bf16) (v : Vec Ideal S2048x256 .bf16) (r : Fin 32768) (a : Fin 256) (q : Fin 128 → Fin 13120)
    (hf : ∀ k, f (ix2 a k) = x (ix2 r k)) (hv : ∀ k (j : Fin 128), v (ix2 k ⟨128 + j, by omega⟩) = w (ix2 k (q j))) (j : Fin 128) :
    head1 f v (ix2 a j) = prj x w r (q j) := (head1_at f v a j).trans (dot_prj x w _ _ r _ hf fun k => hv k j)

/-- A rotated and normed head, from the projection's entries in the order of `lane`. -/
theorem rope_rot (y : FVec Ideal S256x128 .f32) (g : Vec Ideal S1x128 .f32) (cs sn : Vec Ideal S256x128 .f32) (a : Fin 256) (d : Fin 128)
    (F G : Fin 128 → EReal) (s : Fin 4096) (hy : ∀ j, y (ix2 a j) = F (lane j)) (hg : ∀ j, g (ix2 0 j) = G (lane j))
    (hc : ∀ j, cs (ix2 a j) = cosL s j) (hs : ∀ j, sn (ix2 a j) = sinL s j) :
    ropeT (normT y g) cs sn (ix2 a d) = rot (fun j => nrm (Ideal.ofBits .f32 0x43000000#32) F (G j) j) s d := by
  rw [ropeT_at, normT_at, normT_at, show (fun j => y (ix2 a j)) = _ from funext hy, nrm_lane, nrm_lane, hg, hg, hc, hs]
  rfl

theorem leaf_aq (y : FVec Ideal S256x128 .f32) (g : Vec Ideal S1x128 .f32) (cs sn : Vec Ideal S256x128 .f32) (a : Fin 256) (d : Fin 128)
    (r : Fin 32768) (n : Fin 3840) (b : ℕ) (hn : n.val = b + d.val) (hb : b % 128 = 0) (h : b + 128 ≤ 1024)
    (hy : ∀ j : Fin 128, y (ix2 a j) = prj x w r (srcQ ⟨b + j, by omega⟩)) (hg : ∀ j, g (ix2 0 j) = x2 (ix1 (lane j)))
    (hc : ∀ j, cs (ix2 a j) = cosL ⟨r % 4096, by omega⟩ j) (hs : ∀ j, sn (ix2 a j) = sinL ⟨r % 4096, by omega⟩ j) :
    ropeT (normT y g) cs sn (ix2 a d) = val_main_v231 (F := Ideal) x w x2 x3 x4 x5 x6 x7 (ix2 r n) := by
  rw [ref_aq x w x2 x3 x4 x5 x6 x7 r n b d hn hb h]
  refine rope_rot y g cs sn a d _ (fun j => x2 (ix1 j)) _ (fun j => (hy j).trans (congrArg (prj x w r) (Fin.ext ?_))) hg hc hs
  unfold srcQ pairQ lane
  simp only [if_pos (show b + j.val < 1024 by omega)]
  omega

theorem leaf_ak (y : FVec Ideal S256x128 .f32) (g : Vec Ideal S1x128 .f32) (cs sn : Vec Ideal S256x128 .f32) (a : Fin 256) (d : Fin 128)
    (r : Fin 32768) (n : Fin 3840) (b : ℕ) (hn : n.val = b + d.val) (hb : b % 128 = 0) (h0 : 1024 ≤ b) (h : b + 128 ≤ 1280)
    (hy : ∀ j : Fin 128, y (ix2 a j) = prj x w r (srcQ ⟨b + j, by omega⟩)) (hg : ∀ j, g (ix2 0 j) = x3 (ix1 (lane j)))
    (hc : ∀ j, cs (ix2 a j) = cosL ⟨r % 4096, by omega⟩ j) (hs : ∀ j, sn (ix2 a j) = sinL ⟨r % 4096, by omega⟩ j) :
    ropeT (normT y g) cs sn (ix2 a d) = val_main_v231 (F := Ideal) x w x2 x3 x4 x5 x6 x7 (ix2 r n) := by
  rw [ref_ak x w x2 x3 x4 x5 x6 x7 r n b d hn hb h0 h]
  refine rope_rot y g cs sn a d _ (fun j => x3 (ix1 j)) _ (fun j => (hy j).trans (congrArg (prj x w r) (Fin.ext ?_))) hg hc hs
  unfold srcQ pairQ lane
  simp only [if_neg (show ¬ b + j.val < 1024 by omega), if_pos (show b + j.val < 1280 by omega)]
  omega

/-- A normed head that is not rotated. -/
theorem norm_nrm (y : FVec Ideal S256x128 .f32) (g : Vec Ideal S1x128 .f32) (a : Fin 256) (d : Fin 128) (F : Fin 128 → EReal) (G : EReal)
    (hy : ∀ j, y (ix2 a j) = F j) (hg : g (ix2 0 d) = G) :
    (truncf .bf16 (normT y g) bitsLt_bf16_f32 : FVec Ideal S256x128 .bf16) (ix2 a d) = nrm (Ideal.ofBits .f32 0x43000000#32) F G d := by
  refine Eq.trans (Eq.trans ?_ (normT_at y g a d)) ?_
  · pointwise
  · rw [show (fun j => y (ix2 a j)) = _ from funext hy, hg]

theorem leaf_wq (y : FVec Ideal S256x128 .f32) (g : Vec Ideal S1x128 .f32) (a : Fin 256) (d : Fin 128)
    (r : Fin 32768) (n : Fin 3840) (b : ℕ) (hn : n.val = b + d.val) (hb : b % 128 = 0) (h0 : 1536 ≤ b) (h : b + 128 ≤ 2560)
    (hy : ∀ j : Fin 128, y (ix2 a j) = prj x w r (srcQ ⟨b + j, by omega⟩)) (hg : ∀ j, g (ix2 0 j) = x4 (ix1 j)) :
    (truncf .bf16 (normT y g) bitsLt_bf16_f32 : FVec Ideal S256x128 .bf16) (ix2 a d) = val_main_v231 (F := Ideal) x w x2 x3 x4 x5 x6 x7 (ix2 r n) := by
  rw [ref_wq x w x2 x3 x4 x5 x6 x7 r n b d hn hb h0 h]
  refine norm_nrm y g a d _ _ (fun j => (hy j).trans (congrArg (prj x w r) (Fin.ext ?_))) (hg d)
  unfold srcQ
  simp only [if_neg (show ¬ b + j.val < 1024 by omega), if_neg (show ¬ b + j.val < 1280 by omega), if_neg (show ¬ b + j.val < 1536 by omega),
    if_pos (show b + j.val < 2560 by omega)]
  omega

theorem leaf_wk (y : FVec Ideal S256x128 .f32) (g : Vec Ideal S1x128 .f32) (a : Fin 256) (d : Fin 128)
    (r : Fin 32768) (n : Fin 3840) (b : ℕ) (hn : n.val = b + d.val) (hb : b % 128 = 0) (h0 : 2560 ≤ b) (h : b + 128 ≤ 2816)
    (hy : ∀ j : Fin 128, y (ix2 a j) = prj x w r (srcQ ⟨b + j, by omega⟩)) (hg : ∀ j, g (ix2 0 j) = x5 (ix1 j)) :
    (truncf .bf16 (normT y g) bitsLt_bf16_f32 : FVec Ideal S256x128 .bf16) (ix2 a d) = val_main_v231 (F := Ideal) x w x2 x3 x4 x5 x6 x7 (ix2 r n) := by
  rw [ref_wk x w x2 x3 x4 x5 x6 x7 r n b d hn hb h0 h]
  refine norm_nrm y g a d _ _ (fun j => (hy j).trans (congrArg (prj x w r) (Fin.ext ?_))) (hg d)
  unfold srcQ
  simp only [if_neg (show ¬ b + j.val < 1024 by omega), if_neg (show ¬ b + j.val < 1280 by omega), if_neg (show ¬ b + j.val < 1536 by omega),
    if_neg (show ¬ b + j.val < 2560 by omega), if_pos (show b + j.val < 2816 by omega)]
  omega

/-- The projection written as it is: the values' columns. -/
theorem plain_prj (f : Vec Ideal S256x2048 .bf16) (v : Vec Ideal S2048x256 .bf16) (a d : Fin 256) (r : Fin 32768) (q : Fin 13120)
    (hf : ∀ k, f (ix2 a k) = x (ix2 r k)) (hv : ∀ k, v (ix2 k d) = w (ix2 k q)) :
    (truncf .bf16 (matmul (φ₁ := .bf16) (φ₂ := .bf16) dot_S256x2048_S2048x256_S256x256_1_0_0_1_n_n none f
      (shapeCast S2048x256 v shapeCasts_S2048x256_S2048x256) (constant S256x256 .f32 0x00000000#32)) bitsLt_bf16_f32 : FVec Ideal S256x256 .bf16) (ix2 a d)
      = prj x w r q := (plain_at f v a d).trans (dot_prj x w _ _ r _ hf hv)

theorem leaf_av (f : Vec Ideal S256x2048 .bf16) (v : Vec Ideal S2048x256 .bf16) (a d : Fin 256) (r : Fin 32768) (n : Fin 3840)
    (hn : n.val = 1280 + d.val) (hf : ∀ k, f (ix2 a k) = x (ix2 r k)) (hv : ∀ k (j : Fin 256), v (ix2 k j) = w (ix2 k (srcQ ⟨1280 + j, by omega⟩))) :
    (truncf .bf16 (matmul (φ₁ := .bf16) (φ₂ := .bf16) dot_S256x2048_S2048x256_S256x256_1_0_0_1_n_n none f
      (shapeCast S2048x256 v shapeCasts_S2048x256_S2048x256) (constant S256x256 .f32 0x00000000#32)) bitsLt_bf16_f32 : FVec Ideal S256x256 .bf16) (ix2 a d)
      = val_main_v231 (F := Ideal) x w x2 x3 x4 x5 x6 x7 (ix2 r n) := by
  rw [ref_av x w x2 x3 x4 x5 x6 x7 r n d hn]
  refine (plain_prj x w f v a d r _ hf fun k => hv k d).trans (congrArg (prj x w r) (Fin.ext ?_))
  unfold srcQ
  simp only [if_neg (show ¬ 1280 + d.val < 1024 by omega), if_neg (show ¬ 1280 + d.val < 1280 by omega), if_pos (show 1280 + d.val < 1536 by omega)]
  omega

theorem leaf_wv (f : Vec Ideal S256x2048 .bf16) (v : Vec Ideal S2048x256 .bf16) (a d : Fin 256) (r : Fin 32768) (n : Fin 3840)
    (hn : n.val = 2816 + d.val) (hf : ∀ k, f (ix2 a k) = x (ix2 r k)) (hv : ∀ k (j : Fin 256), v (ix2 k j) = w (ix2 k (srcQ ⟨2816 + j, by omega⟩))) :
    (truncf .bf16 (matmul (φ₁ := .bf16) (φ₂ := .bf16) dot_S256x2048_S2048x256_S256x256_1_0_0_1_n_n none f
      (shapeCast S2048x256 v shapeCasts_S2048x256_S2048x256) (constant S256x256 .f32 0x00000000#32)) bitsLt_bf16_f32 : FVec Ideal S256x256 .bf16) (ix2 a d)
      = val_main_v231 (F := Ideal) x w x2 x3 x4 x5 x6 x7 (ix2 r n) := by
  rw [ref_wv x w x2 x3 x4 x5 x6 x7 r n d hn]
  refine (plain_prj x w f v a d r _ hf fun k => hv k d).trans (congrArg (prj x w r) (Fin.ext ?_))
  unfold srcQ
  simp only [if_neg (show ¬ 2816 + d.val < 1024 by omega), if_neg (show ¬ 2816 + d.val < 1280 by omega), if_neg (show ¬ 2816 + d.val < 1536 by omega),
    if_neg (show ¬ 2816 + d.val < 2560 by omega), if_neg (show ¬ 2816 + d.val < 2816 by omega), if_pos (show 2816 + d.val < 3072 by omega)]
  omega

theorem leaf_cq (f : Vec Ideal S256x2048 .bf16) (v : Vec Ideal S2048x512 .bf16) (g : Vec Ideal S1x512 .f32) (a : Fin 256) (d : Fin 512) (r : Fin 32768) (n : Fin 3840)
    (hn : n.val = 3072 + d.val) (hf : ∀ k, f (ix2 a k) = x (ix2 r k)) (hv : ∀ k (j : Fin 512), v (ix2 k j) = w (ix2 k (srcQ ⟨3072 + j, by omega⟩)))
    (hg : ∀ j, g (ix2 0 j) = x6 (ix1 j)) :
    k0_pay1 (F := Ideal) f v g (ix2 a d) = val_main_v231 (F := Ideal) x w x2 x3 x4 x5 x6 x7 (ix2 r n) := by
  rw [ref_cq x w x2 x3 x4 x5 x6 x7 r n d hn, lat_at, hg]
  refine nrm_congr _ (fun j => (dot_prj x w _ _ r _ hf fun k => hv k j).trans (congrArg (prj x w r) (Fin.ext ?_))) rfl _
  unfold srcQ
  simp only [if_neg (show ¬ 3072 + j.val < 1024 by omega), if_neg (show ¬ 3072 + j.val < 1280 by omega), if_neg (show ¬ 3072 + j.val < 1536 by omega),
    if_neg (show ¬ 3072 + j.val < 2560 by omega), if_neg (show ¬ 3072 + j.val < 2816 by omega), if_neg (show ¬ 3072 + j.val < 3072 by omega),
    if_pos (show 3072 + j.val < 3584 by omega)]
  omega

theorem leaf_ckv (f : Vec Ideal S256x2048 .bf16) (v : Vec Ideal S2048x256 .bf16) (g : Vec Ideal S1x256 .f32) (a d : Fin 256) (r : Fin 32768) (n : Fin 3840)
    (hn : n.val = 3584 + d.val) (hf : ∀ k, f (ix2 a k) = x (ix2 r k)) (hv : ∀ k (j : Fin 256), v (ix2 k j) = w (ix2 k (srcQ ⟨3584 + j, by omega⟩)))
    (hg : ∀ j, g (ix2 0 j) = x7 (ix1 j)) :
    k0_pay4 (F := Ideal) (k0_pay2 f v) (k0_pay3 g) (ix2 a d) = val_main_v231 (F := Ideal) x w x2 x3 x4 x5 x6 x7 (ix2 r n) := by
  rw [ref_ckv x w x2 x3 x4 x5 x6 x7 r n d hn, klat_at, hg]
  refine nrm_congr _ (fun j => (dot_prj x w _ _ r _ hf fun k => hv k j).trans (congrArg (prj x w r) (Fin.ext ?_))) rfl _
  unfold srcQ
  simp only [if_neg (show ¬ 3584 + j.val < 1024 by omega), if_neg (show ¬ 3584 + j.val < 1280 by omega), if_neg (show ¬ 3584 + j.val < 1536 by omega),
    if_neg (show ¬ 3584 + j.val < 2560 by omega), if_neg (show ¬ 3584 + j.val < 2816 by omega), if_neg (show ¬ 3584 + j.val < 3072 by omega),
    if_neg (show ¬ 3584 + j.val < 3584 by omega), if_pos (show 3584 + j.val < 3840 by omega)]
  omega

theorem leaf_kr (f : Vec Ideal S256x2048 .bf16) (v : Vec Ideal S2048x128 .bf16) (a : Fin 256) (d : Fin 128) (r : Fin 32768)
    (hf : ∀ k, f (ix2 a k) = x (ix2 r k)) (hv : ∀ k (j : Fin 128), v (ix2 k j) = w (ix2 k (srcQ ⟨3840 + j, by omega⟩))) :
    (matmul (φ₁ := .bf16) (φ₂ := .bf16) dot_S256x2048_S2048x128_S256x128_1_0_0_1_n_n none f
      (shapeCast S2048x128 v shapeCasts_S2048x128_S2048x128) (constant S256x128 .f32 0x00000000#32) : FVec Ideal S256x128 .f32) (ix2 a d)
      = val_main_v236 (F := Ideal) x w (ix2 r d) := by
  rw [ref_kr x w r d]
  refine (kr_at f v a d).trans ((dot_prj x w _ _ r _ hf fun k => hv k d).trans (congrArg (prj x w r) (Fin.ext ?_)))
  unfold srcQ
  simp only [if_neg (show ¬ 3840 + d.val < 1024 by omega), if_neg (show ¬ 3840 + d.val < 1280 by omega), if_neg (show ¬ 3840 + d.val < 1536 by omega),
    if_neg (show ¬ 3840 + d.val < 2560 by omega), if_neg (show ¬ 3840 + d.val < 2816 by omega), if_neg (show ¬ 3840 + d.val < 3072 by omega),
    if_neg (show ¬ 3840 + d.val < 3584 by omega), if_neg (show ¬ 3840 + d.val < 3840 by omega)]
  omega

end Qkv
-- ==== Proof.QkvPieces.lean ====
module

public import proofs.«01_k».proof.Proof.QkvLeaf
public import proofs.«01_k».proof.Proof.Gen.QkvRefIdeal.Run
public import Idealize.ShloMosaic.Lib.Claim

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

variable (m : (ℓ : Loc nD τ sig) → Buf (Elt Ideal) ℓ)

/-- Where each window's block stands at a grid point. -/
theorem idx : ∀ t : Fin cfg0.N,
    win0_0.index t = ![t.val, 0] ∧ win0_1.index t = ![0, 0] ∧ win0_2.index t = ![0, 0] ∧ win0_3.index t = ![t.val % 4, 0]
    ∧ win0_4.index t = ![t.val % 4, 0] ∧ win0_5.index t = ![t.val, 0] ∧ win0_6.index t = ![t.val, 0] ∧ t.val < 32 := by
  decide +kernel

theorem uncut : ∀ (t : Fin cfg0.N) (a : Fin 2), (win0 1).clip (grid0.coords t) a = none := by
  decide +kernel

theorem all_moved (t : Fin cfg0.N) (j : (win0 1).block.Idx) : (win0 1).moved (grid0.coords t) j = true :=
  ((win0 1).moved_iff _ j).mpr fun a => by
    have := (j a).isLt
    unfold Pipeline.Window.xsize
    rw [uncut t a]
    exact this

theorem wblk (c : Dev nD) (t : Fin cfg0.N) (k : Fin 2048) (n : Fin 3968) :
    (win0 1).fill (grid0.coords t) dflt0_1 (iblk m c 1 t) (ix2 k n) = m ((c : Thread nD τ).loc main_arg1) (ix2 k (srcQ n)) := by
  refine Eq.trans ?_ (col_at m c k n)
  unfold Pipeline.Window.fill
  rw [dif_pos (all_moved t _)]
  unfold iblk
  refine congrArg (V m c main_v27) (funext fun a => Fin.ext ?_)
  have hi := (idx t).2.1
  match a with
  | ⟨0, _⟩ =>
    show win0_1.index t 0 * 2048 + 1 * k.val = k.val
    rw [hi]; show 0 * 2048 + 1 * k.val = k.val; omega
  | ⟨1, _⟩ =>
    show win0_1.index t 1 * 3968 + 1 * n.val = n.val
    rw [hi]; show 0 * 3968 + 1 * n.val = n.val; omega

theorem wld (c : Dev nD) (t : Fin cfg0.N) (k : Fin 2048) (b l : ℕ) (inb) (j : Fin l) (q : Fin 3968) (hq : q.val = b + j.val) :
    View.ld ((win0 1).fill (grid0.coords t) dflt0_1 (iblk m c 1 t)) (Rect.unit ![0, b] ![2048, l] inb) (ix2 k j) = m ((c : Thread nD τ).loc main_arg1) (ix2 k (srcQ q)) := by
  refine Eq.trans ?_ (wblk m c t k q)
  refine congrArg ((win0 1).fill (grid0.coords t) dflt0_1 (iblk m c 1 t)) (funext fun a => Fin.ext ?_)
  match a with
  | ⟨0, _⟩ => show 0 + 1 * k.val = k.val; omega
  | ⟨1, _⟩ => show b + 1 * j.val = q.val; omega

theorem fld (c : Dev nD) (t : Fin cfg0.N) (s : ℕ) (inb) (a : Fin 256) (k : Fin 2048) (r : Fin 32768) (hr : r.val = t.val * 1024 + s + a.val) :
    View.ld (iblk m c 0 t) (Rect.unit ![s, 0] ![256, 2048] inb) (ix2 a k) = m ((c : Thread nD τ).loc main_arg0) (ix2 r k) := by
  have hi := (idx t).1
  refine Eq.trans ?_ (congrFun (show V m c main_arg0 = m ((c : Thread nD τ).loc main_arg0) by unfold V; rfl) _)
  refine congrArg (V m c main_arg0) (funext fun i => Fin.ext ?_)
  match i with
  | ⟨0, _⟩ =>
    show win0_0.index t 0 * 1024 + 1 * (s + 1 * a.val) = r.val
    rw [hi]; show t.val * 1024 + 1 * (s + 1 * a.val) = r.val; omega
  | ⟨1, _⟩ =>
    show win0_0.index t 1 * 2048 + 1 * (0 + 1 * k.val) = k.val
    rw [hi]; show 0 * 2048 + 1 * (0 + 1 * k.val) = k.val; omega

theorem gld (c : Dev nD) (t : Fin cfg0.N) (b l : ℕ) (inb) (j : Fin l) (q : Fin 3840) (hq : q.val = b + j.val) :
    View.ld (iblk m c 2 t) (Rect.unit ![0, b] ![1, l] inb) (ix2 0 j) = V m c main_v48 (ix2 0 q) := by
  have hi := (idx t).2.2.1
  refine congrArg (V m c main_v48) (funext fun i => Fin.ext ?_)
  match i with
  | ⟨0, _⟩ =>
    show win0_2.index t 0 * 1 + 1 * (0 + 1 * 0) = 0
    rw [hi]; rfl
  | ⟨1, _⟩ =>
    show win0_2.index t 1 * 3840 + 1 * (b + 1 * j.val) = q.val
    rw [hi]; show 0 * 3840 + 1 * (b + 1 * j.val) = q.val; omega

theorem cld (c : Dev nD) (t : Fin cfg0.N) (s : ℕ) (inb) (a : Fin 256) (j : Fin 128) (r : Fin 4096) (hr : r.val = t.val % 4 * 1024 + s + a.val) :
    View.ld (iblk m c 3 t) (Rect.unit ![s, 0] ![256, 128] inb) (ix2 a j) = cosL r j := by
  have hi := (idx t).2.2.2.1
  refine Eq.trans ?_ (cos_at m c r j)
  refine congrArg (V m c main_v78) (funext fun i => Fin.ext ?_)
  match i with
  | ⟨0, _⟩ =>
    show win0_3.index t 0 * 1024 + 1 * (s + 1 * a.val) = r.val
    rw [hi]; show t.val % 4 * 1024 + 1 * (s + 1 * a.val) = r.val; omega
  | ⟨1, _⟩ =>
    show win0_3.index t 1 * 128 + 1 * (0 + 1 * j.val) = j.val
    rw [hi]; show 0 * 128 + 1 * (0 + 1 * j.val) = j.val; omega

theorem sld (c : Dev nD) (t : Fin cfg0.N) (s : ℕ) (inb) (a : Fin 256) (j : Fin 128) (r : Fin 4096) (hr : r.val = t.val % 4 * 1024 + s + a.val) :
    View.ld (iblk m c 4 t) (Rect.unit ![s, 0] ![256, 128] inb) (ix2 a j) = sinL r j := by
  have hi := (idx t).2.2.2.2.1
  refine Eq.trans ?_ (sin_at m c r j)
  refine congrArg (V m c main_v80) (funext fun i => Fin.ext ?_)
  match i with
  | ⟨0, _⟩ =>
    show win0_4.index t 0 * 1024 + 1 * (s + 1 * a.val) = r.val
    rw [hi]; show t.val % 4 * 1024 + 1 * (s + 1 * a.val) = r.val; omega
  | ⟨1, _⟩ =>
    show win0_4.index t 1 * 128 + 1 * (0 + 1 * j.val) = j.val
    rw [hi]; show 0 * 128 + 1 * (0 + 1 * j.val) = j.val; omega

/-- Where an entry of the block of the result stands in the result. -/
theorem row_at (t : Fin cfg0.N) (y : ((cfg0.win 5).xblock (cfg0.grid.coords t)).Idx) :
    (((View.whole main_v81_0).slice (win0_5.rect t)).emb y 0).val = t.val * 1024 + (y 0).val := by
  show win0_5.index t 0 * 1024 + 1 * (y 0).val = _
  rw [(idx t).2.2.2.2.2.1]; show t.val * 1024 + 1 * (y 0).val = _; omega

theorem col_at' (t : Fin cfg0.N) (y : ((cfg0.win 5).xblock (cfg0.grid.coords t)).Idx) :
    (((View.whole main_v81_0).slice (win0_5.rect t)).emb y 1).val = (y 1).val := by
  show win0_5.index t 1 * 3840 + 1 * (y 1).val = _
  rw [(idx t).2.2.2.2.2.1]; show 0 * 3840 + 1 * (y 1).val = _; omega

/-- The left half of a tile, at the loads the kernel makes. -/
theorem left (c : Dev nD) (t : Fin cfg0.N) (s b : ℕ) (i0 i1) (a : Fin 256) (r : Fin 32768) (hr : r.val = t.val * 1024 + s + a.val) (j : Fin 128) (hq : b + j.val < 3968) :
    head0 (View.ld (iblk m c 0 t) (Rect.unit ![s, 0] ![256, 2048] i0)) (View.ld ((win0 1).fill (grid0.coords t) dflt0_1 (iblk m c 1 t)) (Rect.unit ![0, b] ![2048, 256] i1)) (ix2 a j)
      = prj (m ((c : Thread nD τ).loc main_arg0)) (m ((c : Thread nD τ).loc main_arg1)) r (srcQ ⟨b + j.val, hq⟩) :=
  (head0_at _ _ a j).trans (dot_prj _ _ _ _ r _ (fun k => fld m c t s i0 a k r hr) fun k => wld m c t k b 256 i1 _ _ rfl)

theorem right (c : Dev nD) (t : Fin cfg0.N) (s b b' : ℕ) (i0 i1) (a : Fin 256) (r : Fin 32768) (hr : r.val = t.val * 1024 + s + a.val) (hb : b' = b + 128) (j : Fin 128) (hq : b' + j.val < 3968) :
    head1 (View.ld (iblk m c 0 t) (Rect.unit ![s, 0] ![256, 2048] i0)) (View.ld ((win0 1).fill (grid0.coords t) dflt0_1 (iblk m c 1 t)) (Rect.unit ![0, b] ![2048, 256] i1)) (ix2 a j)
      = prj (m ((c : Thread nD τ).loc main_arg0)) (m ((c : Thread nD τ).loc main_arg1)) r (srcQ ⟨b' + j.val, hq⟩) :=
  (head1_at _ _ a j).trans (dot_prj _ _ _ _ r _ (fun k => fld m c t s i0 a k r hr) fun k => wld m c t k b 256 i1 _ _ (by dsimp only; omega))

theorem piece_aq (c : Dev nD) (t : Fin cfg0.N) (y : ((cfg0.win 5).xblock (cfg0.grid.coords t)).Idx) (x : S256x128.Idx) (hd : FVec Ideal S256x128 .f32) (s b : ℕ) (i0 i1 i2)
    (hy : ∀ r : Fin 32768, r.val = t.val * 1024 + s + (x 0).val → ∀ (j : Fin 128) (hq : b + j.val < 3968), hd (ix2 (x 0) j) = prj (m ((c : Thread nD τ).loc main_arg0)) (m ((c : Thread nD τ).loc main_arg1)) r (srcQ ⟨b + j.val, hq⟩))
    (h0 : (y 0).val = s + (x 0).val) (h1 : (y 1).val = b + (x 1).val) (hs : s + 256 ≤ 1024) (hb : b % 128 = 0) (hhi : b + 128 ≤ 1024) :
    ropeT (normT hd (View.ld (iblk m c 2 t) (Rect.unit ![0, b] ![1, 128] i0))) (View.ld (iblk m c 3 t) (Rect.unit ![s, 0] ![256, 128] i1)) (View.ld (iblk m c 4 t) (Rect.unit ![s, 0] ![256, 128] i2)) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hx : (x 0).val < 256 := (x 0).isLt
  have hz : (x 1).val < 128 := (x 1).isLt
  have ht := (idx t).2.2.2.2.2.2.2
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  refine leaf_aq _ _ _ _ _ _ _ _ hd _ _ _ (x 0) (x 1) _ _ b (hc.trans h1) hb hhi (fun j => hy _ (by omega) j _)
    (fun j => (gld m c t b 128 i0 j ⟨b + j.val, by omega⟩ rfl).trans (gain_aq m c _ b j rfl hb hhi))
    (fun j => cld m c t s i1 _ j _ (by dsimp only; omega)) (fun j => sld m c t s i2 _ j _ (by dsimp only; omega))

theorem piece_ak (c : Dev nD) (t : Fin cfg0.N) (y : ((cfg0.win 5).xblock (cfg0.grid.coords t)).Idx) (x : S256x128.Idx) (hd : FVec Ideal S256x128 .f32) (s b : ℕ) (i0 i1 i2)
    (hy : ∀ r : Fin 32768, r.val = t.val * 1024 + s + (x 0).val → ∀ (j : Fin 128) (hq : b + j.val < 3968), hd (ix2 (x 0) j) = prj (m ((c : Thread nD τ).loc main_arg0)) (m ((c : Thread nD τ).loc main_arg1)) r (srcQ ⟨b + j.val, hq⟩))
    (h0 : (y 0).val = s + (x 0).val) (h1 : (y 1).val = b + (x 1).val) (hs : s + 256 ≤ 1024) (hb : b % 128 = 0) (hlo : 1024 ≤ b) (hhi : b + 128 ≤ 1280) :
    ropeT (normT hd (View.ld (iblk m c 2 t) (Rect.unit ![0, b] ![1, 128] i0))) (View.ld (iblk m c 3 t) (Rect.unit ![s, 0] ![256, 128] i1)) (View.ld (iblk m c 4 t) (Rect.unit ![s, 0] ![256, 128] i2)) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hx : (x 0).val < 256 := (x 0).isLt
  have hz : (x 1).val < 128 := (x 1).isLt
  have ht := (idx t).2.2.2.2.2.2.2
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  refine leaf_ak _ _ _ _ _ _ _ _ hd _ _ _ (x 0) (x 1) _ _ b (hc.trans h1) hb hlo hhi (fun j => hy _ (by omega) j _)
    (fun j => (gld m c t b 128 i0 j ⟨b + j.val, by omega⟩ rfl).trans (gain_ak m c _ b j rfl hb hlo hhi))
    (fun j => cld m c t s i1 _ j _ (by dsimp only; omega)) (fun j => sld m c t s i2 _ j _ (by dsimp only; omega))

theorem piece_wq (c : Dev nD) (t : Fin cfg0.N) (y : ((cfg0.win 5).xblock (cfg0.grid.coords t)).Idx) (x : S256x128.Idx) (hd : FVec Ideal S256x128 .f32) (s b : ℕ) (i0)
    (hy : ∀ r : Fin 32768, r.val = t.val * 1024 + s + (x 0).val → ∀ (j : Fin 128) (hq : b + j.val < 3968), hd (ix2 (x 0) j) = prj (m ((c : Thread nD τ).loc main_arg0)) (m ((c : Thread nD τ).loc main_arg1)) r (srcQ ⟨b + j.val, hq⟩))
    (h0 : (y 0).val = s + (x 0).val) (h1 : (y 1).val = b + (x 1).val) (hs : s + 256 ≤ 1024) (hb : b % 128 = 0) (hlo : 1536 ≤ b) (hhi : b + 128 ≤ 2560) :
    (truncf .bf16 (normT hd (View.ld (iblk m c 2 t) (Rect.unit ![0, b] ![1, 128] i0))) bitsLt_bf16_f32 : FVec Ideal S256x128 .bf16) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hx : (x 0).val < 256 := (x 0).isLt
  have hz : (x 1).val < 128 := (x 1).isLt
  have ht := (idx t).2.2.2.2.2.2.2
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  refine leaf_wq _ _ _ _ _ _ _ _ hd _ (x 0) (x 1) _ _ b (hc.trans h1) hb hlo hhi (fun j => hy _ (by omega) j _)
    (fun j => (gld m c t b 128 i0 j ⟨b + j.val, by omega⟩ rfl).trans (gain_wq m c _ b j rfl hb hlo hhi))

theorem piece_wk (c : Dev nD) (t : Fin cfg0.N) (y : ((cfg0.win 5).xblock (cfg0.grid.coords t)).Idx) (x : S256x128.Idx) (hd : FVec Ideal S256x128 .f32) (s b : ℕ) (i0)
    (hy : ∀ r : Fin 32768, r.val = t.val * 1024 + s + (x 0).val → ∀ (j : Fin 128) (hq : b + j.val < 3968), hd (ix2 (x 0) j) = prj (m ((c : Thread nD τ).loc main_arg0)) (m ((c : Thread nD τ).loc main_arg1)) r (srcQ ⟨b + j.val, hq⟩))
    (h0 : (y 0).val = s + (x 0).val) (h1 : (y 1).val = b + (x 1).val) (hs : s + 256 ≤ 1024) (hb : b % 128 = 0) (hlo : 2560 ≤ b) (hhi : b + 128 ≤ 2816) :
    (truncf .bf16 (normT hd (View.ld (iblk m c 2 t) (Rect.unit ![0, b] ![1, 128] i0))) bitsLt_bf16_f32 : FVec Ideal S256x128 .bf16) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hx : (x 0).val < 256 := (x 0).isLt
  have hz : (x 1).val < 128 := (x 1).isLt
  have ht := (idx t).2.2.2.2.2.2.2
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  refine leaf_wk _ _ _ _ _ _ _ _ hd _ (x 0) (x 1) _ _ b (hc.trans h1) hb hlo hhi (fun j => hy _ (by omega) j _)
    (fun j => (gld m c t b 128 i0 j ⟨b + j.val, by omega⟩ rfl).trans (gain_wk m c _ b j rfl hb hlo hhi))

theorem piece_av (c : Dev nD) (t : Fin cfg0.N) (y : ((cfg0.win 5).xblock (cfg0.grid.coords t)).Idx) (x : S256x256.Idx) (s : ℕ) (i0 i1)
    (h0 : (y 0).val = s + (x 0).val) (h1 : (y 1).val = 1280 + (x 1).val) :
    (truncf .bf16 (matmul (φ₁ := .bf16) (φ₂ := .bf16) dot_S256x2048_S2048x256_S256x256_1_0_0_1_n_n none (View.ld (iblk m c 0 t) (Rect.unit ![s, 0] ![256, 2048] i0))
      (shapeCast S2048x256 (View.ld ((win0 1).fill (grid0.coords t) dflt0_1 (iblk m c 1 t)) (Rect.unit ![0, 1280] ![2048, 256] i1)) shapeCasts_S2048x256_S2048x256) (constant S256x256 .f32 0x00000000#32)) bitsLt_bf16_f32 : FVec Ideal S256x256 .bf16) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  exact leaf_av _ _ _ _ _ _ _ _ _ _ (x 0) (x 1) _ _ (hc.trans h1) (fun k => fld m c t s i0 _ k _ (by omega))
    (fun k j => wld m c t k 1280 256 i1 j _ rfl)

theorem piece_wv (c : Dev nD) (t : Fin cfg0.N) (y : ((cfg0.win 5).xblock (cfg0.grid.coords t)).Idx) (x : S256x256.Idx) (s : ℕ) (i0 i1)
    (h0 : (y 0).val = s + (x 0).val) (h1 : (y 1).val = 2816 + (x 1).val) :
    (truncf .bf16 (matmul (φ₁ := .bf16) (φ₂ := .bf16) dot_S256x2048_S2048x256_S256x256_1_0_0_1_n_n none (View.ld (iblk m c 0 t) (Rect.unit ![s, 0] ![256, 2048] i0))
      (shapeCast S2048x256 (View.ld ((win0 1).fill (grid0.coords t) dflt0_1 (iblk m c 1 t)) (Rect.unit ![0, 2816] ![2048, 256] i1)) shapeCasts_S2048x256_S2048x256) (constant S256x256 .f32 0x00000000#32)) bitsLt_bf16_f32 : FVec Ideal S256x256 .bf16) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  exact leaf_wv _ _ _ _ _ _ _ _ _ _ (x 0) (x 1) _ _ (hc.trans h1) (fun k => fld m c t s i0 _ k _ (by omega))
    (fun k j => wld m c t k 2816 256 i1 j _ rfl)

theorem piece_cq (c : Dev nD) (t : Fin cfg0.N) (y : ((cfg0.win 5).xblock (cfg0.grid.coords t)).Idx) (x : S256x512.Idx) (s : ℕ) (i0 i1 i2)
    (h0 : (y 0).val = s + (x 0).val) (h1 : (y 1).val = 3072 + (x 1).val) :
    k0_pay1 (F := Ideal) (View.ld (iblk m c 0 t) (Rect.unit ![s, 0] ![256, 2048] i0)) (View.ld ((win0 1).fill (grid0.coords t) dflt0_1 (iblk m c 1 t)) (Rect.unit ![0, 3072] ![2048, 512] i1)) (View.ld (iblk m c 2 t) (Rect.unit ![0, 3072] ![1, 512] i2)) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  exact leaf_cq _ _ _ _ _ _ _ _ _ _ _ (x 0) (x 1) _ _ (hc.trans h1) (fun k => fld m c t s i0 _ k _ (by omega))
    (fun k j => wld m c t k 3072 512 i1 j _ rfl) (fun j => (gld m c t 3072 512 i2 j ⟨3072 + j.val, by omega⟩ rfl).trans (gain_cq m c _ j rfl))

theorem piece_ckv (c : Dev nD) (t : Fin cfg0.N) (y : ((cfg0.win 5).xblock (cfg0.grid.coords t)).Idx) (x : S256x256.Idx) (s : ℕ) (i0 i1 i2)
    (h0 : (y 0).val = s + (x 0).val) (h1 : (y 1).val = 3584 + (x 1).val) :
    k0_pay4 (F := Ideal) (k0_pay2 (View.ld (iblk m c 0 t) (Rect.unit ![s, 0] ![256, 2048] i0)) (View.ld ((win0 1).fill (grid0.coords t) dflt0_1 (iblk m c 1 t)) (Rect.unit ![0, 3584] ![2048, 256] i1))) (k0_pay3 (View.ld (iblk m c 2 t) (Rect.unit ![0, 3584] ![1, 256] i2))) x
      = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v81_0).slice (win0_5.rect t)).emb y) := by
  have hr := row_at t y
  have hc := col_at' t y
  refine Eq.trans (congrArg _ (eq_ix2 x)) (Eq.trans ?_ (congrArg (val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (eq_ix2 _)).symm)
  exact leaf_ckv _ _ _ _ _ _ _ _ _ _ _ (x 0) (x 1) _ _ (hc.trans h1) (fun k => fld m c t s i0 _ k _ (by omega))
    (fun k j => wld m c t k 3584 256 i1 j _ rfl) (fun j => (gld m c t 3584 256 i2 j ⟨3584 + j.val, by omega⟩ rfl).trans (gain_ckv m c _ j rfl))

theorem piece_kr (c : Dev nD) (t : Fin cfg0.N) (y : ((cfg0.win 6).xblock (cfg0.grid.coords t)).Idx) (x : S256x128.Idx) (s : ℕ) (i0 i1)
    (h0 : (y 0).val = s + (x 0).val) (h1 : (y 1).val = (x 1).val) :
    (matmul (φ₁ := .bf16) (φ₂ := .bf16) dot_S256x2048_S2048x128_S256x128_1_0_0_1_n_n none (View.ld (iblk m c 0 t) (Rect.unit ![s, 0] ![256, 2048] i0))
      (shapeCast S2048x128 (View.ld ((win0 1).fill (grid0.coords t) dflt0_1 (iblk m c 1 t)) (Rect.unit ![0, 3840] ![2048, 128] i1)) shapeCasts_S2048x128_S2048x128) (constant S256x128 .f32 0x00000000#32) : FVec Ideal S256x128 .f32) x
      = val_main_v236 (F := Ideal) (m ((c : Thread nD τ).loc main_arg0)) (m ((c : Thread nD τ).loc main_arg1)) (((View.whole main_v81_1).slice (win0_6.rect t)).emb y) := by
  have hr : ((((View.whole main_v81_1).slice (win0_6.rect t)).emb y) 0).val = t.val * 1024 + (y 0).val := by
    show win0_6.index t 0 * 1024 + 1 * (y 0).val = _
    rw [(idx t).2.2.2.2.2.2.1]; show t.val * 1024 + 1 * (y 0).val = _; omega
  have hc : (((View.whole main_v81_1).slice (win0_6.rect t)).emb y) 1 = x 1 := by
    refine Fin.ext (Eq.trans ?_ h1)
    show win0_6.index t 1 * 128 + 1 * (y 1).val = _
    rw [(idx t).2.2.2.2.2.2.1]; show 0 * 128 + 1 * (y 1).val = _; omega
  refine Eq.trans (congrArg _ (eq_ix2 x)) (Eq.trans ?_ (congrArg (val_main_v236 (F := Ideal) (m ((c : Thread nD τ).loc main_arg0)) (m ((c : Thread nD τ).loc main_arg1))) (eq_ix2 _)).symm)
  rw [hc]
  exact leaf_kr _ _ _ _ (x 0) (x 1) _ (fun k => fld m c t s i0 _ k _ (by omega)) (fun k j => wld m c t k 3840 128 i1 j _ rfl)

end Qkv
-- ==== Proof.QkvPartA.lean ====
module

public import proofs.«01_k».proof.Proof.QkvPieces
public import proofs.«01_k».proof.Proof.Gen.QkvRefIdeal.Run
public import Idealize.ShloMosaic.Lib.Claim

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

variable (m : (ℓ : Loc nD τ sig) → Buf (Elt Ideal) ℓ)

set_option maxHeartbeats 20000000 in
/-- The columns of the axial queries. -/
theorem part_a (c : Dev nD) (t : Fin cfg0.N) (y : ((cfg0.win 5).xblock (cfg0.grid.coords t)).Idx) (hl : 0 ≤ (y 1).val) (hu : (y 1).val < 1024) :
    (dats m 0 c).after 5 t y = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_5.blk t).view.emb y) := by
  rw [after0_5]
  dsimp only [outsAt0]
  frame_open
  simp only [View.readCov_eq_canon']
  frame_out
  canon_tiles x h using (View.cover_of_tiledBy _ ![256, 128] (by sl_kernel_rfl) y)
  all_goals first
    | (exfalso; omega)
    | (have hg : 0 ≤ (y 1).val ∧ (y 1).val < 1024 ∧ (y 1).val / 128 % 2 = 0 := by omega)
      open_payloads
      refine piece_aq m c t y x _ _ _ _ _ _ ?_ (by first | exact h0 | exact h0.trans (Nat.zero_add _).symm | omega) (by first | exact h1 | omega) (by decide) (by decide) (by decide)
      exact fun r hr j hq => left m c t _ _ _ _ _ r hr j hq
    | (have hg : 0 ≤ (y 1).val ∧ (y 1).val < 1024 ∧ (y 1).val / 128 % 2 = 1 := by omega)
      open_payloads
      refine piece_aq m c t y x _ _ _ _ _ _ ?_ (by first | exact h0 | exact h0.trans (Nat.zero_add _).symm | omega) (by first | exact h1 | omega) (by decide) (by decide) (by decide)
      exact fun r hr j hq => right m c t _ _ _ _ _ _ r hr rfl j hq

end Qkv
-- ==== Proof.QkvPartB.lean ====
module

public import proofs.«01_k».proof.Proof.QkvPieces
public import proofs.«01_k».proof.Proof.Gen.QkvRefIdeal.Run
public import Idealize.ShloMosaic.Lib.Claim

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

variable (m : (ℓ : Loc nD τ sig) → Buf (Elt Ideal) ℓ)

set_option maxHeartbeats 20000000 in
/-- The columns of the axial keys and values. -/
theorem part_b (c : Dev nD) (t : Fin cfg0.N) (y : ((cfg0.win 5).xblock (cfg0.grid.coords t)).Idx) (hl : 1024 ≤ (y 1).val) (hu : (y 1).val < 1536) :
    (dats m 0 c).after 5 t y = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_5.blk t).view.emb y) := by
  rw [after0_5]
  dsimp only [outsAt0]
  frame_open
  simp only [View.readCov_eq_canon']
  frame_out
  canon_tiles x h using (View.cover_of_tiledBy _ ![256, 128] (by sl_kernel_rfl) y)
  all_goals first
    | (exfalso; omega)
    | (have hg : 1024 ≤ (y 1).val ∧ (y 1).val < 1280 ∧ (y 1).val / 128 % 2 = 0 := by omega)
      open_payloads
      refine piece_ak m c t y x _ _ _ _ _ _ ?_ (by first | exact h0 | exact h0.trans (Nat.zero_add _).symm | omega) (by first | exact h1 | omega) (by decide) (by decide) (by decide) (by decide)
      exact fun r hr j hq => left m c t _ _ _ _ _ r hr j hq
    | (have hg : 1024 ≤ (y 1).val ∧ (y 1).val < 1280 ∧ (y 1).val / 128 % 2 = 1 := by omega)
      open_payloads
      refine piece_ak m c t y x _ _ _ _ _ _ ?_ (by first | exact h0 | exact h0.trans (Nat.zero_add _).symm | omega) (by first | exact h1 | omega) (by decide) (by decide) (by decide) (by decide)
      exact fun r hr j hq => right m c t _ _ _ _ _ _ r hr rfl j hq
    | (have hg : 1280 ≤ (y 1).val ∧ (y 1).val < 1536 := by omega)
      open_payloads
      exact piece_av m c t y x _ _ _ (by first | exact h0 | exact h0.trans (Nat.zero_add _).symm | omega) (by first | exact h1 | omega)

end Qkv
-- ==== Proof.QkvPartC.lean ====
module

public import proofs.«01_k».proof.Proof.QkvPieces
public import proofs.«01_k».proof.Proof.Gen.QkvRefIdeal.Run
public import Idealize.ShloMosaic.Lib.Claim

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

variable (m : (ℓ : Loc nD τ sig) → Buf (Elt Ideal) ℓ)

set_option maxHeartbeats 20000000 in
/-- The columns of the window's queries. -/
theorem part_c (c : Dev nD) (t : Fin cfg0.N) (y : ((cfg0.win 5).xblock (cfg0.grid.coords t)).Idx) (hl : 1536 ≤ (y 1).val) (hu : (y 1).val < 2560) :
    (dats m 0 c).after 5 t y = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_5.blk t).view.emb y) := by
  rw [after0_5]
  dsimp only [outsAt0]
  frame_open
  simp only [View.readCov_eq_canon']
  frame_out
  canon_tiles x h using (View.cover_of_tiledBy _ ![256, 128] (by sl_kernel_rfl) y)
  all_goals first
    | (exfalso; omega)
    | (have hg : 1536 ≤ (y 1).val ∧ (y 1).val < 2560 ∧ (y 1).val / 128 % 2 = 0 := by omega)
      open_payloads
      refine piece_wq m c t y x _ _ _ _ ?_ (by first | exact h0 | exact h0.trans (Nat.zero_add _).symm | omega) (by first | exact h1 | omega) (by decide) (by decide) (by decide) (by decide)
      exact fun r hr j hq => left m c t _ _ _ _ _ r hr j hq
    | (have hg : 1536 ≤ (y 1).val ∧ (y 1).val < 2560 ∧ (y 1).val / 128 % 2 = 1 := by omega)
      open_payloads
      refine piece_wq m c t y x _ _ _ _ ?_ (by first | exact h0 | exact h0.trans (Nat.zero_add _).symm | omega) (by first | exact h1 | omega) (by decide) (by decide) (by decide) (by decide)
      exact fun r hr j hq => right m c t _ _ _ _ _ _ r hr rfl j hq

end Qkv
-- ==== Proof.QkvPartD.lean ====
module

public import proofs.«01_k».proof.Proof.QkvPieces
public import proofs.«01_k».proof.Proof.Gen.QkvRefIdeal.Run
public import Idealize.ShloMosaic.Lib.Claim

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

variable (m : (ℓ : Loc nD τ sig) → Buf (Elt Ideal) ℓ)

set_option maxHeartbeats 20000000 in
/-- The columns of the window's keys and values and of the latents. -/
theorem part_d (c : Dev nD) (t : Fin cfg0.N) (y : ((cfg0.win 5).xblock (cfg0.grid.coords t)).Idx) (hl : 2560 ≤ (y 1).val) (hu : (y 1).val < 3840) :
    (dats m 0 c).after 5 t y = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_5.blk t).view.emb y) := by
  rw [after0_5]
  dsimp only [outsAt0]
  frame_open
  simp only [View.readCov_eq_canon']
  frame_out
  canon_tiles x h using (View.cover_of_tiledBy _ ![256, 128] (by sl_kernel_rfl) y)
  all_goals first
    | (exfalso; omega)
    | (have hg : 2560 ≤ (y 1).val ∧ (y 1).val < 2816 ∧ (y 1).val / 128 % 2 = 0 := by omega)
      open_payloads
      refine piece_wk m c t y x _ _ _ _ ?_ (by first | exact h0 | exact h0.trans (Nat.zero_add _).symm | omega) (by first | exact h1 | omega) (by decide) (by decide) (by decide) (by decide)
      exact fun r hr j hq => left m c t _ _ _ _ _ r hr j hq
    | (have hg : 2560 ≤ (y 1).val ∧ (y 1).val < 2816 ∧ (y 1).val / 128 % 2 = 1 := by omega)
      open_payloads
      refine piece_wk m c t y x _ _ _ _ ?_ (by first | exact h0 | exact h0.trans (Nat.zero_add _).symm | omega) (by first | exact h1 | omega) (by decide) (by decide) (by decide) (by decide)
      exact fun r hr j hq => right m c t _ _ _ _ _ _ r hr rfl j hq
    | (have hg : 2816 ≤ (y 1).val ∧ (y 1).val < 3072 := by omega)
      open_payloads
      exact piece_wv m c t y x _ _ _ (by first | exact h0 | exact h0.trans (Nat.zero_add _).symm | omega) (by first | exact h1 | omega)
    | (have hg : 3072 ≤ (y 1).val ∧ (y 1).val < 3584 := by omega)
      open_payloads
      exact piece_cq m c t y x _ _ _ _ (by first | exact h0 | exact h0.trans (Nat.zero_add _).symm | omega) (by first | exact h1 | omega)
    | (have hg : 3584 ≤ (y 1).val := by omega)
      open_payloads
      exact piece_ckv m c t y x _ _ _ _ (by first | exact h0 | exact h0.trans (Nat.zero_add _).symm | omega) (by first | exact h1 | omega)

end Qkv
-- ==== Proof.Qkv.lean ====
module

public import proofs.«01_k».proof.Proof.QkvPartA
public import proofs.«01_k».proof.Proof.QkvPartB
public import proofs.«01_k».proof.Proof.QkvPartC
public import proofs.«01_k».proof.Proof.QkvPartD
public import proofs.«01_k».proof.Proof.Gen.QkvRefIdeal.Run
public import Idealize.ShloMosaic.Lib.Claim

@[expose] public section

set_option maxRecDepth 16384

namespace Qkv
open Cert.QkvIdeal Cert.QkvIdeal.Gen Idealize.ShloMosaic Idealize.ShloMosaic.TcCoe Idealize.SL.Sem
open Cert.QkvRefIdeal.Read (val_main_v231 val_main_v236)

variable (m : (ℓ : Loc nD τ sig) → Buf (Elt Ideal) ℓ)

set_option maxHeartbeats 20000000 in
/-- The queries, keys, values and latents. -/
theorem value_o (c : Dev nD) :
    (dats m 0 c).arrAt 5 cfg0.N = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 5 _ (by decide +kernel) fun t hf y => ?_
  blk_simp
  have hy : (y 1).val < 3840 := (y 1).isLt
  rcases Nat.lt_or_ge (y 1).val 1024 with h | h
  · exact part_a m c t y (Nat.zero_le _) h
  rcases Nat.lt_or_ge (y 1).val 1536 with h' | h'
  · exact part_b m c t y h h'
  rcases Nat.lt_or_ge (y 1).val 2560 with h'' | h''
  · exact part_c m c t y h' h''
  · exact part_d m c t y h'' hy

set_option maxHeartbeats 20000000 in
/-- The latent attention's rotary key. -/
theorem value_k (c : Dev nD) :
    (dats m 0 c).arrAt 6 cfg0.N = val_main_v236 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  dsimp only [outsAt0]
  frame_open
  simp only [View.readCov_eq_canon']
  frame_out
  canon_tiles x h
  all_goals open_payloads
  all_goals exact piece_kr m c t y x _ _ _ (by first | exact h0 | exact h0.trans (Nat.zero_add _).symm | omega) (by first | exact h1 | omega)

end Qkv
-- ==== Proof.QkvClaim.lean ====
module

public import proofs.«01_k».proof.Defs
public import proofs.«01_k».proof.Proof.Qkv
public import proofs.«01_k».proof.Proof.Gen.Qkv.Frame
public import proofs.«01_k».proof.Proof.Gen.QkvIdeal.Frame
public import Idealize.ShloMosaic.Lib.Claim

@[expose] public section

set_option maxRecDepth 16384

namespace Qkv
open Idealize.ShloMosaic Idealize.ShloMosaic.TcCoe Idealize.SL.Sem

/-- The reference runs to its end, changes no argument and leaves no semaphore raised. -/
theorem frame_of_reference (m : (ℓ : Loc Cert.QkvRefIdeal.nD Cert.QkvRefIdeal.τ Cert.QkvRefIdeal.sig) → Buf (Elt Ideal) ℓ)
    (g : Dev Cert.QkvRefIdeal.nD → PrngReg) :
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0) :=
  (θ_run Cert.QkvRefIdeal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩, Idealize.ShloMosaic.sem_eq_zero_of_no_sems (by decide) r.2⟩)
    (Cert.QkvRefIdeal.Value.run (F := Ideal) m g)

/-- The kernel's frame, at machine words. -/
theorem frame : Cert.quiescent_Qkv := fun m g _ => Cert.Qkv.Gen.frame m g

/-- The kernel's frame, at extended reals. -/
theorem frame_ideal : Cert.quiescent_QkvIdeal := fun m g _ => Cert.QkvIdeal.Gen.frame m g

/-- The reference's frame. -/
theorem frame_ref : Cert.quiescent_QkvRefIdeal := fun m g _ => frame_of_reference m g

/-- No operation was renamed. -/
theorem preserves : Cert.preserves_Qkv_QkvIdeal := trivial

/-- The kernel and the reference end with equal results. -/
theorem algebraic : Cert.algebraic_QkvIdeal_QkvRefIdeal := by
  pair_intro
  · run_from Cert.QkvIdeal.Value.run_blocks m g
  · run_from Cert.QkvRefIdeal.Value.run m' g'
    · obtain ⟨e0, e1, e2, e3, e4, e5, e6, e7⟩ := hagree c
      have h0 : StableHlo.launchContents m' c (Proc.devRef .tc Cert.QkvRefIdeal.main_arg0) =
          m (c.tc.loc Cert.QkvIdeal.main_arg0) := e0
      have h1 : StableHlo.launchContents m' c (Proc.devRef .tc Cert.QkvRefIdeal.main_arg1) =
          m (c.tc.loc Cert.QkvIdeal.main_arg1) := e1
      have h2 : StableHlo.launchContents m' c (Proc.devRef .tc Cert.QkvRefIdeal.main_arg2) =
          m (c.tc.loc Cert.QkvIdeal.main_arg2) := e2
      have h3 : StableHlo.launchContents m' c (Proc.devRef .tc Cert.QkvRefIdeal.main_arg3) =
          m (c.tc.loc Cert.QkvIdeal.main_arg3) := e3
      have h4 : StableHlo.launchContents m' c (Proc.devRef .tc Cert.QkvRefIdeal.main_arg4) =
          m (c.tc.loc Cert.QkvIdeal.main_arg4) := e4
      have h5 : StableHlo.launchContents m' c (Proc.devRef .tc Cert.QkvRefIdeal.main_arg5) =
          m (c.tc.loc Cert.QkvIdeal.main_arg5) := e5
      have h6 : StableHlo.launchContents m' c (Proc.devRef .tc Cert.QkvRefIdeal.main_arg6) =
          m (c.tc.loc Cert.QkvIdeal.main_arg6) := e6
      have h7 : StableHlo.launchContents m' c (Proc.devRef .tc Cert.QkvRefIdeal.main_arg7) =
          m (c.tc.loc Cert.QkvIdeal.main_arg7) := e7
      rw [Cert.QkvRefIdeal.Read.val_main_v231_eq, h0, h1, h2, h3, h4, h5, h6, h7]
      exact (value_o m c).symm
    · obtain ⟨e0, e1, -⟩ := hagree c
      have h0 : StableHlo.launchContents m' c (Proc.devRef .tc Cert.QkvRefIdeal.main_arg0) =
          m (c.tc.loc Cert.QkvIdeal.main_arg0) := e0
      have h1 : StableHlo.launchContents m' c (Proc.devRef .tc Cert.QkvRefIdeal.main_arg1) =
          m (c.tc.loc Cert.QkvIdeal.main_arg1) := e1
      rw [Cert.QkvRefIdeal.Read.val_main_v236_eq, h0, h1]
      exact (value_k m c).symm

end Qkv
-- ==== Proof.lean ====
module

public import proofs.«01_k».proof.Defs
import proofs.«01_k».proof.Proof.AxialClaim
import proofs.«01_k».proof.Proof.MlaClaim
import proofs.«01_k».proof.Proof.GateClaim
import proofs.«01_k».proof.Proof.BranchClaim
import proofs.«01_k».proof.Proof.OutClaim
import proofs.«01_k».proof.Proof.QkvClaim
public import proofs.«01_k».proof.Proof.Gen.Axial
public import proofs.«01_k».proof.Proof.Gen.AxialIdeal
public import proofs.«01_k».proof.Proof.Gen.AxialRefIdeal
public import proofs.«01_k».proof.Proof.Gen.Pre_finite_axial
public import proofs.«01_k».proof.Proof.Gen.Mla
public import proofs.«01_k».proof.Proof.Gen.MlaIdeal
public import proofs.«01_k».proof.Proof.Gen.MlaRefIdeal
public import proofs.«01_k».proof.Proof.Gen.Pre_finite_mla
public import proofs.«01_k».proof.Proof.Gen.Gate
public import proofs.«01_k».proof.Proof.Gen.GateIdeal
public import proofs.«01_k».proof.Proof.Gen.GateRefIdeal
public import proofs.«01_k».proof.Proof.Gen.Branch
public import proofs.«01_k».proof.Proof.Gen.BranchIdeal
public import proofs.«01_k».proof.Proof.Gen.BranchRefIdeal
public import proofs.«01_k».proof.Proof.Gen.Out
public import proofs.«01_k».proof.Proof.Gen.OutIdeal
public import proofs.«01_k».proof.Proof.Gen.OutRefIdeal
public import proofs.«01_k».proof.Proof.Gen.Qkv
public import proofs.«01_k».proof.Proof.Gen.QkvIdeal
public import proofs.«01_k».proof.Proof.Gen.QkvRefIdeal

@[expose] public section

noncomputable section

namespace Cert.Proof

open Idealize.ShloMosaic Idealize.SL.Sem

/-- The whole claim: every program's frames, then for each kernel what its idealization preserves and its equality with its reference. -/
theorem claim : Cert.Claim :=
  ⟨Cert.Axial.Gen.facts, Cert.AxialIdeal.Gen.facts, Cert.AxialRefIdeal.Gen.facts, Cert.Mla.Gen.facts, Cert.MlaIdeal.Gen.facts, Cert.MlaRefIdeal.Gen.facts, Cert.Gate.Gen.facts, Cert.GateIdeal.Gen.facts, Cert.GateRefIdeal.Gen.facts, Cert.Branch.Gen.facts, Cert.BranchIdeal.Gen.facts, Cert.BranchRefIdeal.Gen.facts, Cert.Out.Gen.facts, Cert.OutIdeal.Gen.facts, Cert.OutRefIdeal.Gen.facts, Cert.Qkv.Gen.facts, Cert.QkvIdeal.Gen.facts, Cert.QkvRefIdeal.Gen.facts, Cert.Pre_finite_axial.Gen.facts, Cert.Pre_finite_mla.Gen.facts,
    Axial.frame,
    Axial.frame_ideal,
    Axial.frame_ideal_finite,
    Axial.frame_ref,
    Axial.frame_ref_finite,
    Mla.frame,
    Mla.frame_ideal,
    Mla.frame_ideal_finite,
    Mla.frame_ref,
    Mla.frame_ref_finite,
    Gate.frame,
    Gate.frame_ideal,
    Gate.frame_ref,
    Branch.frame,
    Branch.frame_ideal,
    Branch.frame_ref,
    Out.frame,
    Out.frame_ideal,
    Out.frame_ref,
    Qkv.frame,
    Qkv.frame_ideal,
    Qkv.frame_ref,
    Axial.preserves,
    Axial.algebraic,
    Mla.preserves,
    Mla.algebraic,
    Gate.preserves,
    Gate.algebraic,
    Branch.preserves,
    Branch.algebraic,
    Out.preserves,
    Out.algebraic,
    Qkv.preserves,
    Qkv.algebraic⟩

end Cert.Proof

end
